-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S4096x512 : Shape := ⟨2, ![4096, 512]⟩
abbrev S8x176x512 : Shape := ⟨3, ![8, 176, 512]⟩
abbrev S8x160x512 : Shape := ⟨3, ![8, 160, 512]⟩
abbrev S3x7 : Shape := ⟨2, ![3, 7]⟩
abbrev S_ : Shape := ⟨0, ![]⟩
abbrev S176x512 : Shape := ⟨2, ![176, 512]⟩
abbrev S1x176x512 : Shape := ⟨3, ![1, 176, 512]⟩
abbrev S160x512 : Shape := ⟨2, ![160, 512]⟩
abbrev S1x160x512 : Shape := ⟨3, ![1, 160, 512]⟩
abbrev S1x1 : Shape := ⟨2, ![1, 1]⟩

abbrev nBuf : Space → Nat
  | .hbm => 2
  | .vmem => 5
  | .smem => 0
  | _ => 0

abbrev bufTy : (tb : Table) → Fin (tcTables nBuf tb) → BufTy
  | .hbm, ⟨0, _⟩ => ⟨S512x512, .bf16⟩
  | .hbm, ⟨1, _⟩ => ⟨S4096x512, .bf16⟩
  | .local _ .vmem, ⟨0, _⟩ => ⟨S512x512, .bf16⟩
  | .local _ .vmem, ⟨1, _⟩ => ⟨S4096x512, .bf16⟩
  | .local _ .vmem, ⟨2, _⟩ => ⟨S8x176x512, .bf16⟩
  | .local _ .vmem, ⟨3, _⟩ => ⟨S8x176x512, .bf16⟩
  | .local _ .vmem, ⟨4, _⟩ => ⟨S8x160x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v28 : BitVec 32 := Scalar.xori v2 c1_i32_22
  let c1_i32_27 : BitVec 32 := 1#32
  let v29 : BitVec 32 := Scalar.muli v28 c1_i32_27
  let v30 : BitVec 32 := Scalar.addi c0_i32_28 v29
  v30.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_35 : BitVec 32 := 3#32
  let v37 : BitVec 32 := Scalar.xori v2 c3_i32_35
  let c1_i32_40 : BitVec 32 := 1#32
  let v38 : BitVec 32 := Scalar.muli v37 c1_i32_40
  let v39 : BitVec 32 := Scalar.addi c0_i32_41 v38
  v39.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v46 : BitVec 32 := Scalar.xori v2 c4_i32_48
  let c1_i32_52 : BitVec 32 := 1#32
  let v47 : BitVec 32 := Scalar.muli v46 c1_i32_52
  let v48 : BitVec 32 := Scalar.addi c0_i32_53 v47
  v48.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v55 : BitVec 32 := Scalar.xori v2 c3_i32_60
  let c1_i32_65 : BitVec 32 := 1#32
  let v56 : BitVec 32 := Scalar.muli v55 c1_i32_65
  let v57 : BitVec 32 := Scalar.addi c0_i32_66 v56
  v57.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_73 : BitVec 32 := 4#32
  let v64 : BitVec 32 := Scalar.xori v2 c4_i32_73
  let c1_i32_78 : BitVec 32 := 1#32
  let v65 : BitVec 32 := Scalar.muli v64 c1_i32_78
  let v66 : BitVec 32 := Scalar.addi c0_i32_79 v65
  v66.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_86 : BitVec 32 := 4#32
  let v73 : BitVec 32 := Scalar.xori v2 c4_i32_86
  let c1_i32_91 : BitVec 32 := 1#32
  let v74 : BitVec 32 := Scalar.muli v73 c1_i32_91
  let v75 : BitVec 32 := Scalar.addi c0_i32_92 v74
  v75.toNat
def k0_dev10 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_99 : BitVec 32 := 1#32
  let v82 : BitVec 32 := Scalar.xori v2 c1_i32_99
  let c1_i32_104 : BitVec 32 := 1#32
  let v83 : BitVec 32 := Scalar.muli v82 c1_i32_104
  let v84 : BitVec 32 := Scalar.addi c0_i32_105 v83
  v84.toNat
def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_112 : BitVec 32 := 1#32
  let v91 : BitVec 32 := Scalar.xori v2 c1_i32_112
  let c1_i32_117 : BitVec 32 := 1#32
  let v92 : BitVec 32 := Scalar.muli v91 c1_i32_117
  let v93 : BitVec 32 := Scalar.addi c0_i32_118 v92
  v93.toNat
def k0_dev12 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v100 : BitVec 32 := Scalar.xori v2 c3_i32_125
  let c1_i32_130 : BitVec 32 := 1#32
  let v101 : BitVec 32 := Scalar.muli v100 c1_i32_130
  let v102 : BitVec 32 := Scalar.addi c0_i32_131 v101
  v102.toNat
def k0_off1 (d0 : Dev nD) (c0_i32_138 : BitVec 32) (c0_i32_142 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v109 : BitVec 32 := Scalar.xori v2 c0_i32_138
  let c512_i32 : BitVec 32 := 512#32
  let v112 : BitVec 32 := Scalar.muli v109 c512_i32
  let v113 : BitVec 32 := Scalar.addi v112 c0_i32_142
  let v114 : Index := Scalar.indexCast v113
  let c0_143 : Index := 0#32
  ![v114.toNat, 0]
def k0_off2 (d0 : Dev nD) (c0_i32_150 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.xori v2 c0_i32_150
  let c512_i32_154 : BitVec 32 := 512#32
  let v126 : BitVec 32 := Scalar.muli v123 c512_i32_154
  let c352_i32 : BitVec 32 := 352#32
  let v127 : BitVec 32 := Scalar.addi v126 c352_i32
  let v128 : Index := Scalar.indexCast v127
  let c0_155 : Index := 0#32
  ![v128.toNat, 0]
def k0_dev13 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_168 : BitVec 32 := 3#32
  let v136 : BitVec 32 := Scalar.xori v2 c3_i32_168
  let c1_i32_173 : BitVec 32 := 1#32
  let v137 : BitVec 32 := Scalar.muli v136 c1_i32_173
  let v138 : BitVec 32 := Scalar.addi c0_i32_174 v137
  v138.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_181 : BitVec 32 := 4#32
  let v145 : BitVec 32 := Scalar.xori v2 c4_i32_181
  let c1_i32_186 : BitVec 32 := 1#32
  let v146 : BitVec 32 := Scalar.muli v145 c1_i32_186
  let v147 : BitVec 32 := Scalar.addi c0_i32_187 v146
  v147.toNat
def k0_dev15 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_205 : BitVec 32 := 4#32
  let v160 : BitVec 32 := Scalar.xori v2 c4_i32_205
  let c1_i32_210 : BitVec 32 := 1#32
  let v161 : BitVec 32 := Scalar.muli v160 c1_i32_210
  let v162 : BitVec 32 := Scalar.addi c0_i32_211 v161
  v162.toNat
def k0_dev16 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_218 : BitVec 32 := 1#32
  let v169 : BitVec 32 := Scalar.xori v2 c1_i32_218
  let c1_i32_223 : BitVec 32 := 1#32
  let v170 : BitVec 32 := Scalar.muli v169 c1_i32_223
  let v171 : BitVec 32 := Scalar.addi c0_i32_224 v170
  v171.toNat
def k0_dev17 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v184 : BitVec 32 := Scalar.xori v2 c1_i32_243
  let c1_i32_248 : BitVec 32 := 1#32
  let v185 : BitVec 32 := Scalar.muli v184 c1_i32_248
  let v186 : BitVec 32 := Scalar.addi c0_i32_249 v185
  v186.toNat
def k0_dev18 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_256 : BitVec 32 := 3#32
  let v193 : BitVec 32 := Scalar.xori v2 c3_i32_256
  let c1_i32_261 : BitVec 32 := 1#32
  let v194 : BitVec 32 := Scalar.muli v193 c1_i32_261
  let v195 : BitVec 32 := Scalar.addi c0_i32_262 v194
  v195.toNat
def k0_dev19 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_301 : BitVec 32 := 4#32
  let v229 : BitVec 32 := Scalar.xori v2 c4_i32_301
  let c1_i32_306 : BitVec 32 := 1#32
  let v230 : BitVec 32 := Scalar.muli v229 c1_i32_306
  let v231 : BitVec 32 := Scalar.addi c0_i32_307 v230
  v231.toNat
def k0_dev20 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_325 : BitVec 32 := 1#32
  let v244 : BitVec 32 := Scalar.xori v2 c1_i32_325
  let c1_i32_330 : BitVec 32 := 1#32
  let v245 : BitVec 32 := Scalar.muli v244 c1_i32_330
  let v246 : BitVec 32 := Scalar.addi c0_i32_331 v245
  v246.toNat
def k0_dev21 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_350 : BitVec 32 := 3#32
  let v259 : BitVec 32 := Scalar.xori v2 c3_i32_350
  let c1_i32_355 : BitVec 32 := 1#32
  let v260 : BitVec 32 := Scalar.muli v259 c1_i32_355
  let v261 : BitVec 32 := Scalar.addi c0_i32_356 v260
  v261.toNat
def k0_dev22 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_395 : BitVec 32 := 4#32
  let v295 : BitVec 32 := Scalar.xori v2 c4_i32_395
  let c1_i32_400 : BitVec 32 := 1#32
  let v296 : BitVec 32 := Scalar.muli v295 c1_i32_400
  let v297 : BitVec 32 := Scalar.addi c0_i32_401 v296
  v297.toNat
def k0_dev23 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_419 : BitVec 32 := 1#32
  let v310 : BitVec 32 := Scalar.xori v2 c1_i32_419
  let c1_i32_424 : BitVec 32 := 1#32
  let v311 : BitVec 32 := Scalar.muli v310 c1_i32_424
  let v312 : BitVec 32 := Scalar.addi c0_i32_425 v311
  v312.toNat
def k0_dev24 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_444 : BitVec 32 := 3#32
  let v325 : BitVec 32 := Scalar.xori v2 c3_i32_444
  let c1_i32_449 : BitVec 32 := 1#32
  let v326 : BitVec 32 := Scalar.muli v325 c1_i32_449
  let v327 : BitVec 32 := Scalar.addi c0_i32_450 v326
  v327.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Same.lean ====
/-
# The kernel and its idealization are one program

No operation of the kernel was rewritten, so the two printed programs have the same text: their bodies are equal (`body_same`), so are
their body tables (`table_same`), and whatever the idealization's runs satisfy over some float values, the kernel's runs satisfy over
the same (`run_same`).
-/
module

public import proofs.«01_k».proof.Proof.Gen.Kernel
public import proofs.«01_k».proof.Proof.Gen.KernelIdeal

@[expose] public section

noncomputable section

namespace Cert.Gather

open Cert.KernelIdeal
open Idealize.ShloMosaic Idealize.SL.Sem

variable {F : FTy → Type} [FloatOps F]

set_option maxRecDepth 65536 in
set_option maxHeartbeats 4000000 in
/-- The two bodies are equal, on any buffers and semaphores. -/
theorem body_same (x : Memref sig .tc .vmem S512x512 .bf16) (hx : x.IsWhole) (o : Memref sig .tc .vmem S4096x512 .bf16) (ho : o.IsWhole)
    (b₀ : Memref sig .tc .vmem S8x176x512 .bf16) (h₀ : b₀.IsWhole) (b₁ : Memref sig .tc .vmem S8x176x512 .bf16) (h₁ : b₁.IsWhole)
    (b₂ : Memref sig .tc .vmem S8x160x512 .bf16) (h₂ : b₂.IsWhole) (sends recvs : DmaSems sig S3x7) :
    (Cert.Kernel.cc0_body x hx o ho b₀ h₀ b₁ h₁ b₂ h₂ sends recvs : Prog (TpuEff nD τ sig (Elt F) Λ₀ .tc) PUnit)
      = cc0_body x hx o ho b₀ h₀ b₁ h₁ b₂ h₂ sends recvs := rfl

/-- The two body tables are equal. -/
theorem table_same : (fun {p : Proc τ} => Cert.Kernel.defs₀ (F := F) p : Defs nD τ sig (Elt F) Λ₀) = fun {p} => defs₀ (F := F) p := by
  funext p
  cases p with
  | tc =>
    funext l a
    match l, a with
    | ⟨0, _⟩, (_, _) => exact body_same _ _ _ _ _ _ _ _ _ _ _ _
    | ⟨_ + 1, h⟩, _ => exact absurd h (by omega)
  | _ => rfl

/-- What holds of every run of the idealization's text holds of every run of the kernel's. -/
theorem run_same (s : MemSt nD τ sig (Elt F)) (Q : PUnit × MemSt nD τ sig (Elt F) → Prop)
    (h : θ_run (defs (F := F)) (onTc (τ := τ) (main (F := F))) s Q) :
    θ_run (Cert.Kernel.defs (F := F)) (onTc (τ := Cert.Kernel.τ) (Cert.Kernel.main (F := F))) s Q := by
  have key : ∀ d : Defs nD τ sig (Elt F) Λ₀, d = defs₀ (F := F) →
      θ_run (Pipeline.defs (pcfgs (F := F)) d) (onTc (τ := τ) (main (F := F))) s Q := fun d e => e ▸ h
  exact key _ table_same

end Cert.Gather

end
-- ==== Proof.Steps.lean ====
/-
# The kernel as a list of steps

Three Gray-code pipelines over the corners of a cube run side by side: part `j` of the rows travels along the dimensions
that it takes in the order of its own Gray code, in seven transfers, and lands in the slots of its own buffer `comm j`. Every access of the printed program is one
of seven kinds of step, at a part `j` and a transfer `t` or a slot `r`; this file names the kinds (`Step`), says what program
each is (`stepThen`), lists them in the program's order (`order`), and shows the printed body to be that list.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.Gather

open Cert.KernelIdeal Cert.KernelIdeal.Gen
open Idealize.ShloMosaic Idealize.ShloMosaic.TcCoe
open Idealize.SL.Sem

variable {F : FTy → Type} [FloatOps F]

/-! ## The tables -/

/-- How many rows of a device's block part `j` has, -/
abbrev rowsOf (j : Fin 3) : ℕ := match j with | 0 => 176 | 1 => 176 | 2 => 160
/-- and at which row it starts. -/
abbrev startOf (j : Fin 3) : ℕ := match j with | 0 => 0 | 1 => 176 | 2 => 352
/-- The slot transfer `t` reads, -/
abbrev srcOf (t : Fin 7) : Fin 8 := match t with | 0 => 0 | 1 => 0 | 2 => 1 | 3 => 0 | 4 => 1 | 5 => 2 | 6 => 3
/-- and the slot it lands in. -/
abbrev dstOf (t : Fin 7) : Fin 8 := match t with | 0 => 1 | 1 => 2 | 2 => 3 | 3 => 4 | 4 => 5 | 5 => 6 | 6 => 7
/-- The device whose rows slot `r` of part `j` receives, as the difference from the device that holds the slot. -/
abbrev codeOf (j : Fin 3) (r : Fin 8) : Fin 8 := match j with
  | 0 => match r with | 0 => 0 | 1 => 1 | 2 => 3 | 3 => 2 | 4 => 4 | 5 => 5 | 6 => 7 | 7 => 6
  | 1 => match r with | 0 => 0 | 1 => 3 | 2 => 4 | 3 => 7 | 4 => 1 | 5 => 2 | 6 => 5 | 7 => 6
  | 2 => match r with | 0 => 0 | 1 => 4 | 2 => 1 | 3 => 5 | 4 => 3 | 5 => 7 | 6 => 2 | 7 => 6

/-! ## Shapes, buffers, semaphores -/

/-- The shape of part `j`'s buffer of eight slots, -/
abbrev slab (j : Fin 3) : Shape := ⟨3, ![8, rowsOf j, 512]⟩
/-- of one slot of it, -/
abbrev slotSh (j : Fin 3) : Shape := ⟨3, ![1, rowsOf j, 512]⟩
/-- and of the same rows as a matrix. -/
abbrev tile (j : Fin 3) : Shape := ⟨2, ![rowsOf j, 512]⟩

theorem tile_pos (j : Fin 3) : 0 < (tile j).numel := by revert j; decide
theorem slot_pos (j : Fin 3) : 0 < (slotSh j).numel := by revert j; decide

/-- The staged block of `x`, and the staged result. -/
abbrev xM : Memref sig .tc .vmem S512x512 .bf16 := Memref.whole cc0_stg0_0
abbrev oM : Memref sig .tc .vmem S4096x512 .bf16 := Memref.whole cc0_stg1_0

/-- Part `j`'s buffer. -/
abbrev comm (j : Fin 3) : Memref sig .tc .vmem (slab j) .bf16 := match j with
  | 0 => Memref.whole cc0_scratch0 | 1 => Memref.whole cc0_scratch1 | 2 => Memref.whole cc0_scratch2

theorem comm_whole (j : Fin 3) : (comm j).IsWhole := by
  match j with | 0 => exact Memref.isWhole_whole _ | 1 => exact Memref.isWhole_whole _ | 2 => exact Memref.isWhole_whole _

theorem slot_inb (j : Fin 3) (r : Fin 8) : ∀ a, (![r.val, 0, 0] : Fin 3 → ℕ) a + (slotSh j).size a ≤ (slab j).size a := by
  revert j r; decide +kernel
/-- Slot `r` of part `j`'s buffer. -/
abbrev slotR (j : Fin 3) (r : Fin 8) : Rect (slab j) := Rect.unit (s := slab j) ![r.val, 0, 0] (slotSh j).size (slot_inb j r)
theorem slot_words (j : Fin 3) (r : Fin 8) : (slotR j r).WholeWords (EltTy.packing .bf16) := by revert j r; decide +kernel
theorem slot_packed (j : Fin 3) (r : Fin 8) : (slotR j r).PackedRows (EltTy.packing .bf16) := by revert j r; decide +kernel
abbrev slot (j : Fin 3) (r : Fin 8) : Memref sig .tc .vmem (slotSh j) .bf16 := (comm j).slice (slotR j r) (fun _ => rfl)

theorem part_inb (j : Fin 3) : ∀ a, (![startOf j, 0] : Fin 2 → ℕ) a + (tile j).size a ≤ S512x512.size a := by revert j; decide +kernel
/-- The rows of part `j` in a device's block. -/
abbrev partR (j : Fin 3) : Rect S512x512 := Rect.unit (s := S512x512) ![startOf j, 0] (tile j).size (part_inb j)

/-- Where the result's rows from slot `r` of part `j` start, as the program computes it. -/
abbrev outOff (c : Dev nD) (j : Fin 3) (r : Fin 8) : Fin 2 → ℕ := match j with
  | 0 => k0_off1 c (BitVec.ofNat 32 (codeOf 0 r).val) (BitVec.ofNat 32 (176 * (0 : Fin 2).val))
  | 1 => k0_off1 c (BitVec.ofNat 32 (codeOf 1 r).val) (BitVec.ofNat 32 (176 * (1 : Fin 2).val))
  | 2 => k0_off2 c (BitVec.ofNat 32 (codeOf 2 r).val)
theorem out_inb (c : Dev nD) (j : Fin 3) (r : Fin 8) : ∀ a, outOff c j r a + (tile j).size a ≤ S4096x512.size a := by
  match j with
  | 0 => exact k0_off1_inb c (codeOf 0 r) 0 | 1 => exact k0_off1_inb c (codeOf 1 r) 1 | 2 => exact k0_off2_inb c (codeOf 2 r)
/-- The result's rows that slot `r` of part `j` fills. -/
abbrev outR (c : Dev nD) (j : Fin 3) (r : Fin 8) : Rect S4096x512 := Rect.unit (s := S4096x512) (outOff c j r) (tile j).size (out_inb c j r)
theorem out_packed (c : Dev nD) (j : Fin 3) (r : Fin 8) : (outR c j r).PackedRows (EltTy.packing .bf16) := by
  match j with
  | 0 => exact k0_off1_packedbf16 c (codeOf 0 r) 0 | 1 => exact k0_off1_packedbf16 c (codeOf 1 r) 1 | 2 => exact k0_off2_packedbf16 c (codeOf 2 r)

theorem sem_inb (j : Fin 3) (t : Fin 7) : ∀ a, (![j.val, t.val] : Fin 2 → ℕ) a + S1x1.size a ≤ S3x7.size a := by revert j t; decide +kernel
/-- The semaphores of transfer `t` of part `j`: the one its sender waits on, -/
abbrev sendS (j : Fin 3) (t : Fin 7) : DmaSem sig :=
  ((cc0_scratch3.slice (Rect.unit (s := S3x7) ![j.val, t.val] S1x1.size (sem_inb j t))).squeeze S_ squeezes_S1x1_S_).sem
/-- and the one its receiver waits on. -/
abbrev recvS (j : Fin 3) (t : Fin 7) : DmaSem sig :=
  ((cc0_scratch4.slice (Rect.unit (s := S3x7) ![j.val, t.val] S1x1.size (sem_inb j t))).squeeze S_ squeezes_S1x1_S_).sem
/-- The barrier semaphore. -/
abbrev barS : Sem sig := (SemArray.scalar (sig.barrier 0 rfl) : Sems sig S_).sem

theorem casts_self (j : Fin 3) : (tile j).ShapeCasts (tile j) := by revert j; decide
theorem casts_in (j : Fin 3) : (tile j).ShapeCasts (slotSh j) := by revert j; decide
theorem casts_out (j : Fin 3) : (slotSh j).ShapeCasts (tile j) := by revert j; decide

/-- What the first copy into slot 0 writes, from the rows read; -/
abbrev intoSlot (j : Fin 3) (v : Vec F (tile j) .bf16) : FVec F (slotSh j) .bf16 :=
  shapeCast (slotSh j) (shapeCast (tile j) v (casts_self j)) (casts_in j)
/-- what a slot's store writes into the result. -/
abbrev fromSlot (j : Fin 3) (v : Vec F (slotSh j) .bf16) : FVec F (tile j) .bf16 := shapeCast (tile j) v (casts_out j)

/-! ## The devices the program addresses -/

/-- The `i`-th signal's device, as the program computes it; -/
abbrev sigDev (c : Dev nD) (i : Fin 3) : Dev nD := match i with
  | 0 => ⟨k0_dev1 c, k0_dev1_lt c⟩ | 1 => ⟨k0_dev2 c, k0_dev2_lt c⟩ | 2 => ⟨k0_dev3 c, k0_dev3_lt c⟩
/-- transfer `t` of part `j`'s. -/
abbrev sendDev (c : Dev nD) (j : Fin 3) (t : Fin 7) : Dev nD := match t, j with
  | 0, 0 => ⟨k0_dev4 c, k0_dev4_lt c⟩ | 0, 1 => ⟨k0_dev5 c, k0_dev5_lt c⟩ | 0, 2 => ⟨k0_dev6 c, k0_dev6_lt c⟩
  | 1, 0 => ⟨k0_dev7 c, k0_dev7_lt c⟩ | 3, 0 => ⟨k0_dev8 c, k0_dev8_lt c⟩
  | 1, 1 => ⟨k0_dev9 c, k0_dev9_lt c⟩ | 3, 1 => ⟨k0_dev10 c, k0_dev10_lt c⟩
  | 1, 2 => ⟨k0_dev11 c, k0_dev11_lt c⟩ | 3, 2 => ⟨k0_dev12 c, k0_dev12_lt c⟩
  | 2, 0 => ⟨k0_dev13 c, k0_dev13_lt c⟩ | 4, 0 => ⟨k0_dev14 c, k0_dev14_lt c⟩
  | 2, 1 => ⟨k0_dev15 c, k0_dev15_lt c⟩ | 4, 1 => ⟨k0_dev16 c, k0_dev16_lt c⟩
  | 2, 2 => ⟨k0_dev17 c, k0_dev17_lt c⟩ | 4, 2 => ⟨k0_dev18 c, k0_dev18_lt c⟩
  | 5, 0 => ⟨k0_dev19 c, k0_dev19_lt c⟩ | 5, 1 => ⟨k0_dev20 c, k0_dev20_lt c⟩ | 5, 2 => ⟨k0_dev21 c, k0_dev21_lt c⟩
  | 6, 0 => ⟨k0_dev22 c, k0_dev22_lt c⟩ | 6, 1 => ⟨k0_dev23 c, k0_dev23_lt c⟩ | 6, 2 => ⟨k0_dev24 c, k0_dev24_lt c⟩

/-! ## The steps -/

/-- The kinds of step: signal the `i`-th neighbour's barrier; copy the own rows of part `j` into slot 0; wait for the three
    neighbours; start transfer `t` of part `j`; wait for its arrival; wait for its departure; store slot `r` of part `j`. -/
inductive Step where
  | signal (i : Fin 3)
  | boot (j : Fin 3)
  | gate
  | send (j : Fin 3) (t : Fin 7)
  | recv (j : Fin 3) (t : Fin 7)
  | drain (j : Fin 3) (t : Fin 7)
  | store (j : Fin 3) (r : Fin 8)
deriving DecidableEq

/-- A program of the body. -/
abbrev BodyProg (F : FTy → Type) [FloatOps F] := Prog (TpuEff nD τ sig (Elt F) Λ₀ .tc) PUnit

/-- One step's program on device `c`, followed by `k`. -/
abbrev stepThen (c : Dev nD) (s : Step) (k : BodyProg F) : BodyProg F := match s with
  | .signal i => .op (.semSignal (sigDev c i, .tc) barS (1#32 : BitVec 32).toInt) fun _ => k
  | .boot j => .op (.load xM (partR j).toLoadRect (View.loadsAt_vmem (tile_pos j))) fun v =>
      .op (.load (comm j) (slotR j 0).toLoadRect (View.loadsAt_vmem (slot_pos j))) fun _ =>
        .op (.store (comm j) (slotR j 0) (intoSlot j v) Finset.univ
          (View.stores_vmem (slot_pos j) ((comm_whole j).storeExact_slice rfl _ (slot_packed j 0)) (fun _ => rfl)) (.inl rfl)) fun _ => k
  | .gate => .op (.semWait barS (3#32 : BitVec 32).toInt) fun _ => k
  | .send j t => .op (.enqueueDma (slot j (srcOf t)) (.remote (Dev.tc (sendDev c j t)) (slot j (dstOf t)) (.dma (sendS j t))) (.dma (recvS j t))
      ((comm_whole j).wordExact_slice rfl _ (slot_words j _)) ((comm_whole j).wordExact_slice rfl _ (slot_words j _)) ⟨⟨rfl, Or.inl rfl⟩, trivial⟩) fun _ => k
  | .recv j t => .op (.waitDma2 (recvS j t) (slot j (srcOf t)) (slot j (dstOf t))
      ((comm_whole j).wordExact_slice rfl _ (slot_words j _)) ((comm_whole j).wordExact_slice rfl _ (slot_words j _))) fun _ => k
  | .drain j t => .op (.waitDma2 (sendS j t) (slot j (dstOf t)) (slot j (srcOf t))
      ((comm_whole j).wordExact_slice rfl _ (slot_words j _)) ((comm_whole j).wordExact_slice rfl _ (slot_words j _))) fun _ => k
  | .store j r => .op (.load (comm j) (slotR j r).toLoadRect (View.loadsAt_vmem (slot_pos j))) fun v =>
      .op (.load oM (outR c j r).toLoadRect (View.loadsAt_vmem (tile_pos j))) fun _ =>
        .op (.store oM (outR c j r) (fromSlot j v) Finset.univ
          (View.stores_vmem (tile_pos j) ((Memref.isWhole_whole _).storeExact_slice rfl _ (out_packed c j r)) (fun _ => rfl)) (.inl rfl)) fun _ => k

/-- A list of steps as a program. -/
abbrev runSteps (c : Dev nD) : List Step → BodyProg F
  | [] => .ret ⟨⟩
  | s :: l => stepThen c s (runSteps c l)

/-- The program's steps in its order. -/
abbrev order : List Step :=
  [.signal 0, .signal 1, .signal 2, .boot 0, .boot 1, .boot 2, .gate,
   .send 0 0, .send 1 0, .send 2 0, .send 0 1, .send 0 3, .send 1 1, .send 1 3, .send 2 1, .send 2 3,
   .store 0 0, .store 1 0, .store 2 0,
   .recv 0 0, .send 0 2, .send 0 4, .recv 1 0, .send 1 2, .send 1 4, .recv 2 0, .send 2 2, .send 2 4,
   .store 0 1, .store 1 1, .store 2 1,
   .recv 0 1, .send 0 5, .recv 1 1, .send 1 5, .recv 2 1, .send 2 5,
   .store 0 2, .store 1 2, .store 2 2,
   .recv 0 2, .send 0 6, .recv 1 2, .send 1 6, .recv 2 2, .send 2 6,
   .store 0 3, .store 1 3, .store 2 3,
   .recv 0 3, .store 0 4, .recv 1 3, .store 1 4, .recv 2 3, .store 2 4,
   .recv 0 4, .store 0 5, .recv 1 4, .store 1 5, .recv 2 4, .store 2 5,
   .recv 0 5, .store 0 6, .recv 1 5, .store 1 6, .recv 2 5, .store 2 6,
   .recv 0 6, .store 0 7, .recv 1 6, .store 1 7, .recv 2 6, .store 2 7,
   .drain 0 0, .drain 0 1, .drain 0 2, .drain 0 3, .drain 0 4, .drain 0 5, .drain 0 6,
   .drain 1 0, .drain 1 1, .drain 1 2, .drain 1 3, .drain 1 4, .drain 1 5, .drain 1 6,
   .drain 2 0, .drain 2 1, .drain 2 2, .drain 2 3, .drain 2 4, .drain 2 5, .drain 2 6]

/-- The printed body at the launch's buffers and semaphores. -/
abbrev printedBody (F : FTy → Type) [FloatOps F] : BodyProg F :=
  cc0_body xM (Memref.isWhole_whole _) oM (Memref.isWhole_whole _) (Memref.whole cc0_scratch0) (Memref.isWhole_whole _)
    (Memref.whole cc0_scratch1) (Memref.isWhole_whole _) (Memref.whole cc0_scratch2) (Memref.isWhole_whole _) cc0_scratch3 cc0_scratch4

set_option maxRecDepth 65536 in
set_option maxHeartbeats 4000000 in
/-- The printed body is: read the own device, then the list. -/
theorem body_eq : printedBody F = .op .deviceId (fun c => runSteps c order) := rfl

end Cert.Gather

end
-- ==== Proof.Protocol.lean ====
/-
# The cells of the gather and their protocol

Every semaphore the kernel waits on is a cell that is filled and emptied once: a device's barrier cell takes one unit from each
of its three neighbours, and hands over, with each, the slots of that neighbour's buffers the waiting device will write; the
cell of a departure hands back the share of the slot the transfer read; the cell of an arrival hands over the slot it filled.
This file fixes who talks to whom (`peer`, `via`), what every slot is to hold (`piece`, `origin`), the cells (`Cell`, `csem`),
what each hands over (`sched`), and the order of the cells that rules out a deadlock (`lv`).
-/
module

public import proofs.«01_k».proof.Proof.Steps
public import Idealize.ShloMosaic.Lib.Pipeline.Launch
public import Idealize.ShloMosaic.Lib.Pipeline.Kit
public import Idealize.ShloMosaic.Lib.Pipeline.TableIdle
public import Idealize.ShloMosaic.Lib.ShareLeaves
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The gather's copy of the round state: a cell's duties are named by the three neighbours. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who talks to whom -/

/-- The three differences between a device and its neighbours. -/
def nbr (i : Fin 3) : ℕ := match i with | 0 => 1 | 1 => 3 | 2 => 4

set_option backward.proofsInPublic true in
/-- Device `c`'s `i`-th neighbour. -/
def peer (c : Dev nD) (i : Fin 3) : Dev nD := ⟨(c.val ^^^ nbr i) % 8, Nat.mod_lt _ (by decide)⟩

/-- Which of the three stages transfer `t` belongs to, -/
def stageOf (t : Fin 7) : Fin 3 := match t with | 0 => 0 | 1 => 1 | 2 => 1 | 3 => 2 | 4 => 2 | 5 => 2 | 6 => 2
/-- and to which neighbour part `j` sends then. -/
def via (j : Fin 3) (t : Fin 7) : Fin 3 := stageOf t + j

set_option backward.proofsInPublic true in
/-- The device whose rows slot `r` of part `j` on device `c` is to hold. -/
def origin (c : Dev nD) (j : Fin 3) (r : Fin 8) : Dev nD := ⟨(c.val ^^^ (codeOf j r).val) % 8, Nat.mod_lt _ (by decide)⟩

theorem peer_peer (c : Dev nD) (i : Fin 3) : peer (peer c i) i = c := by revert c i; decide +kernel
theorem sigDev_eq (c : Dev nD) (i : Fin 3) : sigDev c i = peer c i := by revert c i; decide +kernel
theorem sendDev_eq (c : Dev nD) (j : Fin 3) (t : Fin 7) : sendDev c j t = peer c (via j t) := by revert c j t; decide +kernel
theorem origin_zero (c : Dev nD) (j : Fin 3) : origin c j 0 = c := by revert c j; decide +kernel
/-- The slot a transfer fills is to hold, at the receiver, what the slot it reads holds at the sender. -/
theorem origin_dst (c : Dev nD) (j : Fin 3) (t : Fin 7) : origin (peer c (via j t)) j (dstOf t) = origin c j (srcOf t) := by
  revert c j t; decide +kernel
theorem origin_inj (c : Dev nD) (j : Fin 3) : Function.Injective (origin c j) := by revert c j; decide +kernel
/-- The result's rows slot `r` of part `j` fills: those of its device of origin. -/
theorem outOff_eq (c : Dev nD) (j : Fin 3) (r : Fin 8) : outOff c j r = ![(origin c j r).val * 512 + startOf j, 0] := by
  revert c j r; decide +kernel

/-- A neighbour relation is its own inverse. -/
def around (i : Fin 3) : Dev nD ≃ Dev nD := ⟨fun c => peer c i, fun c => peer c i, fun c => peer_peer c i, fun c => peer_peer c i⟩

/-! ## The cells -/

/-- A device's cells: the barrier's, and those of the departure (`false`) and the arrival (`true`) of each transfer. -/
abbrev Cell : Type := Option (Bool × Fin 3 × Fin 7)

/-- The semaphore of a cell. -/
abbrev csem : Cell → SemLoc sig
  | none => .reg barS
  | some (false, j, t) => .dma (sendS j t)
  | some (true, j, t) => .dma (recvS j t)

theorem csem_inj : Function.Injective csem := by decide +kernel

abbrev kcell (ck : Dev nD × Cell) : GSem nD τ sig := ((ck.1 : Thread nD τ), csem ck.2)
abbrev barCell (c : Dev nD) : GSem nD τ sig := kcell (c, none)
abbrev sendCell (c : Dev nD) (j : Fin 3) (t : Fin 7) : GSem nD τ sig := kcell (c, some (false, j, t))
abbrev recvCell (c : Dev nD) (j : Fin 3) (t : Fin 7) : GSem nD τ sig := kcell (c, some (true, j, t))

/-- The cell of a semaphore, if it has one. -/
def who (g : GSem nD τ sig) : Option Cell := Function.partialInv csem g.2

theorem who_kcell (c : Dev nD) (k : Cell) : who (kcell (c, k)) = some k := Function.partialInv_left csem_inj k

theorem kcell_inj : Function.Injective kcell := fun a b h => by
  have h1 : a.1 = b.1 := congrArg (fun g : GSem nD τ sig => g.1.1) h
  exact Prod.ext h1 (csem_inj (congrArg (fun g : GSem nD τ sig => g.2) h))

/-- What a transfer of part `j` credits. -/
abbrev N (j : Fin 3) : ℕ := (slot j 0).view.dmaCredit
theorem N_pos (j : Fin 3) : 0 < N j := View.dmaCredit_pos _ (slot_pos j)
theorem credit_slot (j : Fin 3) (r : Fin 8) : (slot j r).view.dmaCredit = N j := rfl

/-! ## What the slots hold -/

/-- The rows of part `j` in device `d`'s block, -/
def piece (X : Dev nD → Vec F S512x512 .bf16) (j : Fin 3) (d : Dev nD) : Vec F (tile j) .bf16 :=
  xM.view.readAt (Elt F) (partR j).toLoadRect (X d)
/-- as a slot holds them. -/
def held (X : Dev nD → Vec F S512x512 .bf16) (j : Fin 3) (d : Dev nD) : Vec F (slotSh j) .bf16 := intoSlot j (piece X j d)

/-- A quarter of a share: `3` is for reading, the rest for the transfers that read the slot at the same time. -/
def quarter (u : Fin 4) : PosShare TreeShare := ShareLeaves.leaf 2 fullShare u
/-- The quarter of its source slot a transfer takes along. -/
def useOf (t : Fin 7) : Fin 4 := match t with | 0 => 0 | 1 => 1 | 2 => 0 | 3 => 2 | 4 => 1 | 5 => 0 | 6 => 0

/-- Device `c`'s slot `r` of part `j`, at share `q`, holding the rows of `d`; -/
def slotAt (X : Dev nD → Vec F S512x512 .bf16) (c : Dev nD) (j : Fin 3) (r : Fin 8) (q : PosShare TreeShare) : sProp 𝕄 :=
  owns (c : Thread nD τ) (slot j r) q (held X j (origin c j r))
/-- the same slot, holding anything. -/
def slotAny (c : Dev nD) (j : Fin 3) (r : Fin 8) : sProp 𝕄 := iprop(∃ Y, owns (c : Thread nD τ) (slot j r) fullShare Y)

instance slotAt_storable (X : Dev nD → Vec F S512x512 .bf16) (c : Dev nD) (j : Fin 3) (r : Fin 8) (q : PosShare TreeShare) :
    BI.Storable (upEmb : UEmb _ 𝕄) (slotAt X c j r q) := by unfold slotAt; infer_instance
instance slotAny_storable (c : Dev nD) (j : Fin 3) (r : Fin 8) : BI.Storable (upEmb : UEmb _ 𝕄) (slotAny (F := F) c j r) := by
  unfold slotAny; infer_instance

/-! ## The schedule -/

/-- The transfers that go to the `i`-th neighbour. -/
def links (i : Fin 3) : Finset (Fin 3 × Fin 7) := Finset.univ.filter fun p => via p.1 p.2 = i

/-- What the duty `i` of a cell of device `c` hands over: at the barrier, the slots of the `i`-th neighbour that `c` will
    write; at a departure, the quarter of the slot read; at an arrival, the slot filled. -/
def pay (X : Dev nD → Vec F S512x512 .bf16) (c : Dev nD) : Cell → Fin 3 → sProp 𝕄
  | none, i => bigSep (links i) fun p => slotAny (peer c i) p.1 (dstOf p.2)
  | some (false, j, t), _ => slotAt X c j (srcOf t) (quarter (useOf t))
  | some (true, j, t), _ => slotAt X c j (dstOf t) fullShare

instance pay_storable (X : Dev nD → Vec F S512x512 .bf16) (c : Dev nD) : ∀ k i, BI.Storable (upEmb : UEmb _ 𝕄) (pay (F := F) X c k i)
  | none, _ => by unfold pay; infer_instance
  | some (false, _, _), _ => by unfold pay; infer_instance
  | some (true, _, _), _ => by unfold pay; infer_instance

/-- Which duties a cell has: the barrier's one for each neighbour, the others one. -/
def dutiesOf : Cell → Finset (Fin 3)
  | none => Finset.univ
  | some _ => {0}
/-- What a duty of a cell adds to its counter. -/
def amountOf : Cell → ℕ
  | none => 1
  | some (_, j, _) => N j
theorem amountOf_pos : ∀ k, 0 < amountOf k
  | none => Nat.one_pos
  | some (_, j, _) => N_pos j

/-- The protocol: one round, with the duties, amounts and handovers above. -/
def sched (X : Dev nD → Vec F S512x512 .bf16) : Rounds.Schedule (GSem nD τ sig) (Fin 3) 𝕄 where
  duties g r := if r = 0 ∧ g.1.2 = .tc then (who g).elim ∅ dutiesOf else ∅
  unitless _ := False
  amount g _ _ := (who g).elim 1 amountOf
  payload g _ i := (who g).elim iprop(emp) fun k => pay X g.1.1 k i
  amount_pos g _ _ _ := by
    cases who g with
    | none => exact Nat.one_pos
    | some k => exact amountOf_pos k

instance sched_storable (X : Dev nD → Vec F S512x512 .bf16) (g : GSem nD τ sig) (r : ℕ) (i : Fin 3) :
    BI.Storable (upEmb : UEmb _ 𝕄) ((sched X).payload g r i) := by
  show BI.Storable upEmb ((who g).elim iprop(emp) fun k => pay X g.1.1 k i)
  cases who g with
  | none => show BI.Storable upEmb iprop(emp); infer_instance
  | some k => show BI.Storable upEmb (pay X g.1.1 k i); infer_instance

section Sched
variable (X : Dev nD → Vec F S512x512 .bf16) (c : Dev nD) (k : Cell)

theorem duties_kcell : (sched X).duties (kcell (c, k)) 0 = dutiesOf k := by
  dsimp only [sched]; rw [if_pos ⟨rfl, rfl⟩, who_kcell]; rfl
theorem duties_later (g : GSem nD τ sig) : ∀ r, 1 ≤ r → (sched X).duties g r = ∅ :=
  fun r hr => by dsimp only [sched]; rw [if_neg fun h => by omega]
theorem amount_kcell (r : ℕ) (i : Fin 3) : (sched X).amount (kcell (c, k)) r i = amountOf k := by
  dsimp only [sched]; rw [who_kcell]; rfl
theorem payload_kcell (r : ℕ) (i : Fin 3) : (sched X).payload (kcell (c, k)) r i = pay X c k i := by
  dsimp only [sched]; rw [who_kcell]; rfl

theorem expect_kcell : (sched X).expect (kcell (c, k)) 0 = (dutiesOf k).card * amountOf k := by
  unfold Schedule.expect Schedule.amountOf
  rw [duties_kcell, Finset.sum_congr rfl fun i _ => amount_kcell X c k 0 i, Finset.sum_const, smul_eq_mul]

/-- What a wait for a whole cell hands over. -/
theorem rest_kcell : bigSep ((sched X).duties (kcell (c, k)) 0 \ ∅) (fun i => (sched X).payload (kcell (c, k)) 0 i)
    = bigSep (dutiesOf k) (pay X c k) := by
  rw [Finset.sdiff_empty, duties_kcell]
  exact bigSep_congr fun i _ => payload_kcell X c k 0 i

end Sched

/-! ## The levels -/

/-- The level of a cell: departures lowest, then the barrier, then the arrivals by the order in which they enable each other. -/
def levelOf : Cell → ℕ
  | none => 1
  | some (false, _, _) => 0
  | some (true, _, t) => 2 + min t.val 3

def L (g : GSem nD τ sig) : Finset Unit := if g.1.2 = .tc then {()} else ∅
def lv (g : GSem nD τ sig) (_ : Unit) : ℕ := (who g).elim 0 levelOf

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Cell) : lv (kcell (c, k)) () = levelOf k := by unfold lv; rw [who_kcell]; rfl

end Cert.Gather

end
-- ==== Proof.Rules.lean ====
/-
# What a device holds, and what each step does to it

A device's holdings are a set of `Atom`s, each standing for one resource (`res`) and perhaps one debt (`debt`): what it has
promised to send. A step takes the atoms `need s` and leaves the atoms `give s`; `rule` proves that of every step, once for each
of the seven kinds.
-/
module

public import proofs.«01_k».proof.Proof.Protocol

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S512x512 .bf16)

/-! ## The atoms -/

/-- The things a device can hold:
    `bsig i` the right to signal the `i`-th neighbour; `mine j t` its own slot transfer `t` of part `j` will fill;
    `gateIn`/`gateOut` its barrier, before and after the wait; `block` its staged block of `x`; `raw j` its slot 0 of part `j`;
    `theirs j t` the slot of its neighbour its transfer fills; `pend`/`fly`/`sent j t` its transfer not yet started, under way,
    departed; `due`/`got j t` the transfer to it, awaited and arrived; `kept j r u` a quarter of slot `r`, filled;
    `oraw`/`ofin j r` the result's rows from slot `r`, before and after they are stored. -/
inductive Atom where
  | bsig (i : Fin 3)
  | mine (j : Fin 3) (t : Fin 7)
  | gateIn
  | gateOut
  | block
  | raw (j : Fin 3)
  | theirs (j : Fin 3) (t : Fin 7)
  | pend (j : Fin 3) (t : Fin 7)
  | fly (j : Fin 3) (t : Fin 7)
  | sent (j : Fin 3) (t : Fin 7)
  | due (j : Fin 3) (t : Fin 7)
  | got (j : Fin 3) (t : Fin 7)
  | kept (j : Fin 3) (r : Fin 8) (u : Fin 4)
  | oraw (j : Fin 3) (r : Fin 8)
  | ofin (j : Fin 3) (r : Fin 8)
deriving DecidableEq

/-- The rows of the result from slot `r` of part `j`, as a memref. -/
abbrev outM (c : Dev nD) (j : Fin 3) (r : Fin 8) : Memref sig .tc .vmem (tile j) .bf16 := oM.slice (outR c j r) (fun _ => rfl)

/-- The resource of an atom on device `c`. -/
def res (c : Dev nD) : Atom → sProp 𝕄
  | .bsig i => dutyTok ER (barCell (peer c i)) 0 i
  | .mine j t => slotAny c j (dstOf t)
  | .gateIn => iprop(atPos ER (barCell c) 0 ∅ 0 ∗ cred (tallyAt (barCell c) () 3))
  | .gateOut => semVal (barCell c) 0
  | .block => ((c : Thread nD τ).loc cc0_stg0_0) ↦{fullShare} X c
  | .raw j => slotAny c j 0
  | .theirs j t => slotAny (peer c (via j t)) j (dstOf t)
  | .pend j t => iprop(dutyTok ER (sendCell c j t) 0 0 ∗ dutyTok ER (recvCell (peer c (via j t)) j t) 0 0 ∗ atPos ER (sendCell c j t) 0 ∅ 0)
  | .fly j t => iprop(cred (tallyAt (sendCell c j t) () (N j)) ∗ atPos ER (sendCell c j t) 0 ∅ 0)
  | .sent j t => semVal (sendCell c j t) 0
  | .due j t => iprop(cred (tallyAt (recvCell c j t) () (N j)) ∗ atPos ER (recvCell c j t) 0 ∅ 0)
  | .got j t => semVal (recvCell c j t) 0
  | .kept j r u => slotAt X c j r (quarter u)
  | .oraw j r => iprop(∃ Y, owns (c : Thread nD τ) (outM c j r) fullShare Y)
  | .ofin j r => owns (c : Thread nD τ) (outM c j r) fullShare (fromSlot j (held X j (origin c j r)))

/-- What device `c` owes while it holds an atom: a unit to a neighbour's barrier, a transfer to a neighbour's arrival cell. -/
def debt (c : Dev nD) : Atom → CellTallies nD τ sig Unit
  | .bsig i => tallyAt (barCell (peer c i)) () 1
  | .pend j t => tallyAt (recvCell (peer c (via j t)) j t) () (N j)
  | _ => 0

def mineE : Fin 3 × Fin 7 ↪ Atom := ⟨fun p => .mine p.1 p.2, fun p q h => by injection h with h1 h2; exact Prod.ext h1 h2⟩
def theirsE : Fin 3 × Fin 7 ↪ Atom := ⟨fun p => .theirs p.1 p.2, fun p q h => by injection h with h1 h2; exact Prod.ext h1 h2⟩
def keptE (j : Fin 3) (r : Fin 8) : Fin 4 ↪ Atom := ⟨fun u => .kept j r u, fun p q h => by injection h⟩

/-- What a step takes, -/
def need : Step → Finset Atom
  | .signal i => insert (.bsig i) ((links i).map mineE)
  | .boot j => {.block, .raw j}
  | .gate => {.gateIn}
  | .send j t => {.pend j t, .theirs j t, .kept j (srcOf t) (useOf t)}
  | .recv j t => {.due j t}
  | .drain j t => {.fly j t}
  | .store j r => {.kept j r 3, .oraw j r}
/-- and what it leaves. -/
def give : Step → Finset Atom
  | .signal i => ∅
  | .boot j => insert .block (Finset.univ.map (keptE j 0))
  | .gate => insert .gateOut (Finset.univ.map theirsE)
  | .send j t => {.fly j t}
  | .recv j t => insert (.got j t) (Finset.univ.map (keptE j (dstOf t)))
  | .drain j t => {.sent j t, .kept j (srcOf t) (useOf t)}
  | .store j r => {.kept j r 3, .ofin j r}

/-- The cell a step waits on, if it does. -/
def waitsOn : Step → Option Cell
  | .gate => some none
  | .recv j t => some (some (true, j, t))
  | .drain j t => some (some (false, j, t))
  | _ => none

/-- All the cells' invariants and the marks that their first round has begun. -/
def records (K : Dev nD × Cell → ℕ) : sProp 𝕄 :=
  bigSep Finset.univ fun ck : Dev nD × Cell => iprop(cellInv ER (sched X) (K ck) (kcell ck) ∗ reached ER (kcell ck) 0)

instance records_persistent (K : Dev nD × Cell → ℕ) : BI.Persistent (records X K) := by unfold records; infer_instance

theorem inv_of (K : Dev nD × Cell → ℕ) (c : Dev nD) (k : Cell) : records X K ⊢ cellInv ER (sched X) (K (c, k)) (kcell (c, k)) := by
  have h : records X K ⊢ iprop(cellInv ER (sched X) (K (c, k)) (kcell (c, k)) ∗ reached ER (kcell (c, k)) 0) := bigSep_elim (Finset.mem_univ (c, k))
  iintro H; ihave H := h $$ H; icases H with ⟨H, -⟩; iexact H
theorem reached_of (K : Dev nD × Cell → ℕ) (c : Dev nD) (k : Cell) : records X K ⊢ reached ER (kcell (c, k)) 0 := by
  have h : records X K ⊢ iprop(cellInv ER (sched X) (K (c, k)) (kcell (c, k)) ∗ reached ER (kcell (c, k)) 0) := bigSep_elim (Finset.mem_univ (c, k))
  iintro H; ihave H := h $$ H; icases H with ⟨-, H⟩; iexact H

/-! ## Slots and their quarters -/

/-- A filled slot is its four quarters. -/
theorem slotAt_quarters (c : Dev nD) (j : Fin 3) (r : Fin 8) :
    (slotAt X c j r fullShare : sProp 𝕄) = bigSep Finset.univ fun u : Fin 4 => slotAt X c j r (quarter u) := by
  unfold slotAt
  rw [owns_eq_rep, ShareLeaves.pointsTo_leaves _ _ 2 fullShare]
  exact bigSep_congr fun u _ => (owns_eq_rep _ _ _ _).symm

theorem slotAt_kept (c : Dev nD) (j : Fin 3) (r : Fin 8) :
    (slotAt X c j r fullShare : sProp 𝕄) = bigSep (Finset.univ.map (keptE j r)) (res X c) := by
  rw [slotAt_quarters, bigSep_map]; rfl

/-- Once the cell is emptied it is closed, and its counter, zero, is its device's. -/
theorem close_cell (K : Dev nD × Cell → ℕ) (c : Dev nD) (k : Cell) :
    iprop(records X K ∗ atPos ER (kcell (c, k)) (0 + 1) ∅ 0) ⊢ iprop(|={Set.univ}=> semVal (kcell (c, k)) 0) := by
  iintro ⟨#HR, Hat⟩
  iapply (Rounds.cell_close ER (sched X) (κ := K (c, k)) (Set.mem_univ _) (fun h => h) (R := 0 + 1) (duties_later X (kcell (c, k))))
  isplitr; · iapply (inv_of X K c k); iexact HR
  iexact Hat

/-! What each kind of cell hands over. -/

theorem pay_bar (c : Dev nD) (i : Fin 3) :
    pay X c none i = (bigSep (links i) fun p => slotAny (peer c i) p.1 (dstOf p.2) : sProp 𝕄) := rfl
theorem pay_send (c : Dev nD) (j : Fin 3) (t : Fin 7) (i : Fin 3) :
    pay X c (some (false, j, t)) i = (slotAt X c j (srcOf t) (quarter (useOf t)) : sProp 𝕄) := rfl
theorem pay_recv (c : Dev nD) (j : Fin 3) (t : Fin 7) (i : Fin 3) :
    pay X c (some (true, j, t)) i = (slotAt X c j (dstOf t) fullShare : sProp 𝕄) := rfl

/-! ## The rules -/

/-- What `rule` states of a step: from its atoms and the debts `O` besides those it settles, it reaches the atoms it leaves. -/
def Sound (K : Dev nD × Cell → ℕ) (s : Step) : Prop :=
  ∀ (c : Dev nD) (O : CellTallies nD τ sig Unit) (W : Waits sig Unit) (k : BodyProg F) (Q : PUnit → sProp 𝕄),
    (∀ q, waitsOn s = some q → (levAts L lv : sProp 𝕄) ⊢ MayWait (c : Thread nD τ) (csem q) () O) →
    iprop((records X K ∗ levAts L lv) ∗ bigSep (need s) (res X c) ∗ owes (c : Thread nD τ) (O + ∑ a ∈ need s, debt c a) W)
      ⊢ iprop(((bigSep (give s) (res X c) ∗ ∃ W', owes (c : Thread nD τ) O W') -∗ wp frame (wpE (defs₀ (F := F)) 𝒱₀ (c : Thread nD τ) none) Set.univ k Q)
        -∗ wp frame (wpE (defs₀ (F := F)) 𝒱₀ (c : Thread nD τ) none) Set.univ (stepThen c s k) Q)

variable (K : Dev nD × Cell → ℕ)

/-! What the sets of atoms a step takes and leaves stand for, one resource after the other. -/

theorem bigSep_cons {a : Atom} {S : Finset Atom} (h : a ∉ S) (Φ : Atom → sProp 𝕄) : bigSep (insert a S) Φ = iprop(Φ a ∗ bigSep S Φ) := by
  rw [bigSep_insert h]; rfl
theorem bigSep_two {a b : Atom} (h : a ≠ b) (Φ : Atom → sProp 𝕄) : bigSep {a, b} Φ = iprop(Φ a ∗ Φ b) := by
  rw [bigSep_cons (by simpa using h), bigSep_singleton]

section
variable (c : Dev nD)
theorem need_signal (i : Fin 3) : bigSep (need (.signal i)) (res X c)
    = iprop(dutyTok ER (barCell (peer c i)) 0 i ∗ bigSep (links i) fun p => slotAny c p.1 (dstOf p.2)) := by
  unfold need; rw [bigSep_cons (by simp [mineE]), bigSep_map]; rfl
theorem need_boot (j : Fin 3) : bigSep (need (.boot j)) (res X c)
    = iprop((((c : Thread nD τ).loc cc0_stg0_0) ↦{fullShare} X c) ∗ slotAny c j 0) := by
  unfold need; rw [bigSep_two (by simp)]; rfl
theorem give_boot (j : Fin 3) : bigSep (give (.boot j)) (res X c)
    = iprop((((c : Thread nD τ).loc cc0_stg0_0) ↦{fullShare} X c) ∗ slotAt X c j 0 fullShare) := by
  unfold give; rw [bigSep_cons (by simp [keptE]), ← slotAt_kept]; rfl
theorem need_gate : bigSep (need .gate) (res X c) = iprop(atPos ER (barCell c) 0 ∅ 0 ∗ cred (tallyAt (barCell c) () 3)) := by
  unfold need; rw [bigSep_singleton]; rfl
theorem give_gate : bigSep (give .gate) (res X c)
    = iprop(semVal (barCell c) 0 ∗ bigSep Finset.univ fun p : Fin 3 × Fin 7 => slotAny (peer c (via p.1 p.2)) p.1 (dstOf p.2)) := by
  unfold give; rw [bigSep_cons (by simp [theirsE]), bigSep_map]; rfl
theorem need_send (j : Fin 3) (t : Fin 7) : bigSep (need (.send j t)) (res X c)
    = iprop((dutyTok ER (sendCell c j t) 0 0 ∗ dutyTok ER (recvCell (peer c (via j t)) j t) 0 0 ∗ atPos ER (sendCell c j t) 0 ∅ 0)
      ∗ slotAny (peer c (via j t)) j (dstOf t) ∗ slotAt X c j (srcOf t) (quarter (useOf t))) := by
  unfold need; rw [bigSep_cons (by simp), bigSep_two (by simp)]; rfl
theorem give_send (j : Fin 3) (t : Fin 7) : bigSep (give (.send j t)) (res X c)
    = iprop(cred (tallyAt (sendCell c j t) () (N j)) ∗ atPos ER (sendCell c j t) 0 ∅ 0) := by
  unfold give; rw [bigSep_singleton]; rfl
theorem need_recv (j : Fin 3) (t : Fin 7) : bigSep (need (.recv j t)) (res X c)
    = iprop(cred (tallyAt (recvCell c j t) () (N j)) ∗ atPos ER (recvCell c j t) 0 ∅ 0) := by
  unfold need; rw [bigSep_singleton]; rfl
theorem give_recv (j : Fin 3) (t : Fin 7) : bigSep (give (.recv j t)) (res X c)
    = iprop(semVal (recvCell c j t) 0 ∗ slotAt X c j (dstOf t) fullShare) := by
  unfold give; rw [bigSep_cons (by simp [keptE]), ← slotAt_kept]; rfl
theorem need_drain (j : Fin 3) (t : Fin 7) : bigSep (need (.drain j t)) (res X c)
    = iprop(cred (tallyAt (sendCell c j t) () (N j)) ∗ atPos ER (sendCell c j t) 0 ∅ 0) := by
  unfold need; rw [bigSep_singleton]; rfl
theorem give_drain (j : Fin 3) (t : Fin 7) : bigSep (give (.drain j t)) (res X c)
    = iprop(semVal (sendCell c j t) 0 ∗ slotAt X c j (srcOf t) (quarter (useOf t))) := by
  unfold give; rw [bigSep_two (by simp)]; rfl
theorem need_store (j : Fin 3) (r : Fin 8) : bigSep (need (.store j r)) (res X c)
    = iprop(slotAt X c j r (quarter 3) ∗ ∃ Y, owns (c : Thread nD τ) (outM c j r) fullShare Y) := by
  unfold need; rw [bigSep_two (by simp)]; rfl
theorem give_store (j : Fin 3) (r : Fin 8) : bigSep (give (.store j r)) (res X c)
    = iprop(slotAt X c j r (quarter 3) ∗ owns (c : Thread nD τ) (outM c j r) fullShare (fromSlot j (held X j (origin c j r)))) := by
  unfold give; rw [bigSep_two (by simp)]; rfl
end

theorem sound_signal (i : Fin 3) : Sound X K (.signal i) := fun c O W k Q _ => by
  have hn : Atom.bsig i ∉ (links i).map mineE := by simp [mineE]
  have hd : ∑ a ∈ need (.signal i), debt c a = tallyAt (barCell (peer c i)) () 1 := by
    unfold need; rw [Finset.sum_insert hn, Finset.sum_map]
    simp [mineE, debt]
  rw [hd, need_signal]
  iintro ⟨⟨#HR, #HL⟩, ⟨Htok, Hm⟩, HO⟩ Hk
  dsimp only [stepThen]
  rw [sigDev_eq]
  iapply (Rounds.wp_signal 𝒱₀ ER (sched X) (c : Thread nD τ) none (dst := (peer c i : Thread nD τ)) (κ := K (peer c i, none)) (r := 0)
      (d := i) (by rw [duties_kcell X (peer c i) none]; exact Finset.mem_univ _) ((amount_kcell X (peer c i) none 0 i).trans (by decide)) () O rfl)
    $$ [HO Htok Hm]
  · isplitr; · iapply (inv_of X K (peer c i) none); iexact HR
    isplitl [HO]; · iexact HO
    isplitl [Htok]; · iexact Htok
    isplitl [Hm]
    · rw [payload_kcell X (peer c i) none, pay_bar, peer_peer]
      iexact Hm
    · iapply (reached_of X K (peer c i) none); iexact HR
  iintro HO
  iapply Hk
  isplitr; · unfold give; rw [bigSep_empty]; iempintro
  iexists W; iexact HO

theorem sound_boot (j : Fin 3) : Sound X K (.boot j) := fun c O W k Q _ => by
  have hd : ∑ a ∈ need (.boot j), debt c a = 0 := by
    unfold need; rw [Finset.sum_pair (by simp)]; simp [debt]
  rw [hd, add_zero, need_boot, give_boot]
  dsimp only [stepThen]
  unfold slotAny owns
  iintro ⟨-, ⟨Hx, %Y, %f, %hf, Hs⟩, HO⟩ Hk
  iapply (wp_load 𝒱₀ (c : Thread nD τ) none Set.univ (m := xM) (Finset.subset_univ _)) $$ Hx; iintro Hx
  iapply (wp_load_rect 𝒱₀ (c : Thread nD τ) none Set.univ (m := comm j) (r := slotR j 0) (Finset.Subset.refl _)) $$ Hs; iintro Hs
  iapply (wp_store 𝒱₀ (c : Thread nD τ) none Set.univ (m := comm j) (r := slotR j 0) (Mk := Finset.univ)
    (S := ((comm j).access (slotR j 0)).set) (Finset.Subset.refl _)) $$ Hs; iintro Hs
  iapply Hk
  isplitl [Hx Hs]
  · isplitl [Hx]; · iexact Hx
    unfold slotAt owns
    iexists _
    isplitr [Hs]; rotate_left; · iexact Hs
    ipureintro
    rw [origin_zero]
    exact View.read_write_univ _ _
  iexists W; iexact HO

/-- The slots handed over at the barrier are those all the transfers fill. -/
theorem gathered (c : Dev nD) : (bigSep (dutiesOf none) (pay X c none) : sProp 𝕄)
    ⊢ bigSep Finset.univ fun p : Fin 3 × Fin 7 => slotAny (peer c (via p.1 p.2)) p.1 (dstOf p.2) := by
  have h (i : Fin 3) : pay X c none i = bigSep (links i) fun p => (slotAny (peer c (via p.1 p.2)) p.1 (dstOf p.2) : sProp 𝕄) :=
    bigSep_congr fun p hp => by rw [(Finset.mem_filter.mp hp).2]
  rw [bigSep_congr fun i _ => h i, show (Finset.univ : Finset (Fin 3 × Fin 7)) = Finset.univ.biUnion links by decide +kernel]
  exact bigSep_biUnion Finset.univ links

theorem sound_gate : Sound X K .gate := fun c O W k Q hmay => by
  have hd : ∑ a ∈ need .gate, debt c a = 0 := by unfold need; rw [Finset.sum_singleton]; rfl
  rw [hd, add_zero, need_gate, give_gate]
  dsimp only [stepThen]
  iintro ⟨⟨#HR, #HL⟩, ⟨Hat, Hc⟩, HO⟩ Hk
  iapply (Rounds.wp_wait_rest_token 𝒱₀ ER (sched X) (c : Thread nD τ) none (κ := K (c, none))
      (wpE_semWait_eq 𝒱₀ (c : Thread nD τ) none Set.univ) (Set.mem_univ _) () (O := O) (W := W) (R := 0) (m := 0) (T := ∅)
      (by rw [expect_kcell X c none]; decide)) $$ [Hc HO Hat]
  · isplitr; · iapply (inv_of X K c none); iexact HR
    isplitl [Hc]; · iexact Hc
    isplitl [HO]; · iexact HO
    isplitr; · iapply (hmay none rfl); iexact HL
    iexact Hat
  iintro ⟨HO, Hat, -, Hpay⟩
  ihave Hp := (Entails.of_eq (rest_kcell X c none)) $$ Hpay
  imod (close_cell X K c none) $$ [Hat] with Hz
  · isplitr; · iexact HR
    iexact Hat
  iapply Hk
  isplitl [Hz Hp]
  · isplitl [Hz]; · iexact Hz
    iapply (gathered X c); iexact Hp
  iexists _; iexact HO

/-- Transfer `t` of part `j`, to the device `n` the program computes: the slot's quarter and the neighbour's slot go, and the
    departure's credit comes. -/
theorem wp_transfer (c n : Dev nD) (j : Fin 3) (t : Fin 7) (hor : origin n j (dstOf t) = origin c j (srcOf t))
    (O : CellTallies nD τ sig Unit) (W : Waits sig Unit) (k : BodyProg F) (Q : PUnit → sProp 𝕄)
    (fs : Buf (Elt F) ((slot j (srcOf t)).view.loc (c : Thread nD τ))) (fd : Buf (Elt F) ((slot j (dstOf t)).view.loc (n : Thread nD τ)))
    (hfs : (slot j (srcOf t)).view.read (Elt F) fs = held X j (origin c j (srcOf t)))
    {hsc : (slot j (dstOf t)).view.ref.isScScratch = false} {hsrc : (slot j (srcOf t)).view.WordExact} {hdst : (slot j (dstOf t)).view.WordExact}
    {hsem : DmaTarget.Typed .vmem (.dma (recvS j t)) (.remote (Dev.tc n : Thread nD τ) (slot j (dstOf t)) (.dma (sendS j t)) hsc)} :
    iprop(cellInv ER (sched X) (K (c, some (false, j, t))) (sendCell c j t) ∗ cellInv ER (sched X) (K (n, some (true, j, t))) (recvCell n j t)
        ∗ ((slot j (srcOf t)).view.loc (c : Thread nD τ) ↦[(slot j (srcOf t)).view.set]{quarter (useOf t)} fs)
        ∗ ((slot j (dstOf t)).view.loc (n : Thread nD τ) ↦[(slot j (dstOf t)).view.set]{fullShare} fd)
        ∗ owes (c : Thread nD τ) (O + tallyAt (recvCell n j t) () (N j)) W
        ∗ dutyTok ER (sendCell c j t) 0 0 ∗ reached ER (sendCell c j t) 0
        ∗ dutyTok ER (recvCell n j t) 0 0 ∗ reached ER (recvCell n j t) 0)
      ⊢ iprop(((cred (tallyAt (sendCell c j t) () (N j)) ∗ owes (c : Thread nD τ) O W)
            -∗ wp frame (wpE (defs₀ (F := F)) 𝒱₀ (c : Thread nD τ) none) Set.univ k Q)
          -∗ wp frame (wpE (defs₀ (F := F)) 𝒱₀ (c : Thread nD τ) none) Set.univ
              (.op (.enqueueDma (slot j (srcOf t)) (.remote (Dev.tc n : Thread nD τ) (slot j (dstOf t)) (.dma (sendS j t)) hsc) (.dma (recvS j t))
                hsrc hdst hsem) fun _ => k) Q) := by
  have hp₁ : ((slot j (srcOf t)).view.loc (c : Thread nD τ) ↦[(slot j (srcOf t)).view.set]{quarter (useOf t)} fs : sProp 𝕄)
      ⊢ (sched X).payload (sendCell c j t) 0 0 := by
    rw [payload_kcell X c (some (false, j, t)), pay_send, slotAt, ← hfs]; exact owns_intro _ _ _ _
  have hp₂ : ((slot j (dstOf t)).view.loc (n : Thread nD τ) ↦[(slot j (dstOf t)).view.set]{fullShare}
        ((slot j (dstOf t)).view.write (Elt F) fd ((slot j (srcOf t)).view.read (Elt F) fs) Finset.univ) : sProp 𝕄)
      ⊢ (sched X).payload (recvCell n j t) 0 0 := by
    rw [payload_kcell X n (some (true, j, t)), pay_recv, slotAt, hor, ← hfs]
    refine (owns_intro (n : Thread nD τ) (slot j (dstOf t)) fullShare _).trans (Entails.of_eq ?_)
    rw [View.read_write_univ]
  exact Rounds.wp_send_pointsTo 𝒱₀ ER (sched X) (c : Thread nD τ) none (k := fun _ => k) (κ₁ := K (c, some (false, j, t))) (κ₂ := K (n, some (true, j, t)))
    (r₁ := 0) (r₂ := 0) (d₁ := 0) (d₂ := 0) (fd := fd)
    (show 0 ∈ (sched X).duties (sendCell c j t) 0 by rw [duties_kcell X c (some (false, j, t))]; exact Finset.mem_singleton_self _)
    (show 0 ∈ (sched X).duties (recvCell n j t) 0 by rw [duties_kcell X n (some (true, j, t))]; exact Finset.mem_singleton_self _)
    () () (N j) rfl (amount_kcell X c (some (false, j, t)) 0 0) (amount_kcell X n (some (true, j, t)) 0 0) O rfl (W := W) hp₁ hp₂

theorem sound_send (j : Fin 3) (t : Fin 7) : Sound X K (.send j t) := fun c O W k Q _ => by
  have hd : ∑ a ∈ need (.send j t), debt c a = tallyAt (recvCell (peer c (via j t)) j t) () (N j) := by
    unfold need; rw [Finset.sum_insert (by simp), Finset.sum_pair (by simp)]; simp only [debt, add_zero]
  rw [hd, need_send, give_send]
  dsimp only [stepThen]
  unfold slotAny slotAt
  have hor : origin (sendDev c j t) j (dstOf t) = origin c j (srcOf t) := by rw [sendDev_eq]; exact origin_dst c j t
  rw [← sendDev_eq]
  iintro ⟨⟨#HR, -⟩, ⟨⟨Hts, Htr, Hat⟩, ⟨%Y, Hd⟩, Hs⟩, HO⟩ Hk
  unfold owns
  icases Hd with ⟨%fd, -, Hd⟩
  icases Hs with ⟨%fs, %hfs, Hs⟩
  iapply (wp_transfer X K c (sendDev c j t) j t hor O W k Q fs fd hfs) $$ [Hts Htr Hd Hs HO]
  · isplitr; · iapply (inv_of X K c (some (false, j, t))); iexact HR
    isplitr; · iapply (inv_of X K (sendDev c j t) (some (true, j, t))); iexact HR
    isplitl [Hs]; · iexact Hs
    isplitl [Hd]; · iexact Hd
    isplitl [HO]; · iexact HO
    isplitl [Hts]; · iexact Hts
    isplitr; · iapply (reached_of X K c (some (false, j, t))); iexact HR
    isplitl [Htr]; · iexact Htr
    iapply (reached_of X K (sendDev c j t) (some (true, j, t))); iexact HR
  iintro ⟨Hc, HO⟩
  iapply Hk
  isplitl [Hc Hat]
  · isplitl [Hc]; · iexact Hc
    iexact Hat
  iexists W; iexact HO

theorem sound_recv (j : Fin 3) (t : Fin 7) : Sound X K (.recv j t) := fun c O W k Q hmay => by
  have hd : ∑ a ∈ need (.recv j t), debt c a = 0 := by unfold need; rw [Finset.sum_singleton]; rfl
  rw [hd, add_zero, need_recv, give_recv]
  dsimp only [stepThen]
  iintro ⟨⟨#HR, #HL⟩, ⟨Hc, Hat⟩, HO⟩ Hk
  iapply (Rounds.wp_wait_rest_token 𝒱₀ ER (sched X) (c : Thread nD τ) none (κ := K (c, some (true, j, t)))
      (wpE_waitDma2_eq 𝒱₀ (c : Thread nD τ) none Set.univ) (Set.mem_univ _) () (O := O) (W := W) (R := 0) (m := 0) (T := ∅)
      (by rw [expect_kcell X c (some (true, j, t)), Nat.zero_add]; exact (Nat.one_mul _).symm)) $$ [Hc HO Hat]
  · isplitr; · iapply (inv_of X K c (some (true, j, t))); iexact HR
    isplitl [Hc]; · iexact Hc
    isplitl [HO]; · iexact HO
    isplitr; · iapply (hmay _ rfl); iexact HL
    iexact Hat
  iintro ⟨HO, Hat, -, Hpay⟩
  ihave Hp := (Entails.of_eq ((rest_kcell X c (some (true, j, t))).trans (bigSep_singleton (i := (0 : Fin 3))))) $$ Hpay
  imod (close_cell X K c (some (true, j, t))) $$ [Hat] with Hz
  · isplitr; · iexact HR
    iexact Hat
  iapply Hk
  isplitl [Hz Hp]
  · isplitl [Hz]; · iexact Hz
    unfold pay; iexact Hp
  iexists _; iexact HO

theorem sound_drain (j : Fin 3) (t : Fin 7) : Sound X K (.drain j t) := fun c O W k Q hmay => by
  have hd : ∑ a ∈ need (.drain j t), debt c a = 0 := by unfold need; rw [Finset.sum_singleton]; rfl
  rw [hd, add_zero, need_drain, give_drain]
  dsimp only [stepThen]
  iintro ⟨⟨#HR, #HL⟩, ⟨Hc, Hat⟩, HO⟩ Hk
  iapply (Rounds.wp_wait_rest_token 𝒱₀ ER (sched X) (c : Thread nD τ) none (κ := K (c, some (false, j, t)))
      (wpE_waitDma2_eq 𝒱₀ (c : Thread nD τ) none Set.univ) (Set.mem_univ _) () (O := O) (W := W) (R := 0) (m := 0) (T := ∅)
      (by rw [expect_kcell X c (some (false, j, t)), Nat.zero_add]; exact (Nat.one_mul _).symm)) $$ [Hc HO Hat]
  · isplitr; · iapply (inv_of X K c (some (false, j, t))); iexact HR
    isplitl [Hc]; · iexact Hc
    isplitl [HO]; · iexact HO
    isplitr; · iapply (hmay _ rfl); iexact HL
    iexact Hat
  iintro ⟨HO, Hat, -, Hpay⟩
  ihave Hp := (Entails.of_eq ((rest_kcell X c (some (false, j, t))).trans (bigSep_singleton (i := (0 : Fin 3))))) $$ Hpay
  imod (close_cell X K c (some (false, j, t))) $$ [Hat] with Hz
  · isplitr; · iexact HR
    iexact Hat
  iapply Hk
  isplitl [Hz Hp]
  · isplitl [Hz]; · iexact Hz
    unfold pay; iexact Hp
  iexists _; iexact HO

theorem sound_store (j : Fin 3) (r : Fin 8) : Sound X K (.store j r) := fun c O W k Q _ => by
  have hd : ∑ a ∈ need (.store j r), debt c a = 0 := by
    unfold need; rw [Finset.sum_pair (by simp)]; simp [debt]
  rw [hd, add_zero, need_store, give_store]
  dsimp only [stepThen]
  unfold slotAt owns
  iintro ⟨-, ⟨⟨%fs, %hfs, Hs⟩, ⟨%Y, %fo, %hfo, Ho⟩⟩, HO⟩ Hk
  iapply (wp_load_rect 𝒱₀ (c : Thread nD τ) none Set.univ (m := comm j) (r := slotR j r) (Finset.Subset.refl _)) $$ Hs; iintro Hs
  iapply (wp_load_rect 𝒱₀ (c : Thread nD τ) none Set.univ (m := oM) (r := outR c j r) (Finset.Subset.refl _)) $$ Ho; iintro Ho
  iapply (wp_store 𝒱₀ (c : Thread nD τ) none Set.univ (m := oM) (r := outR c j r) (Mk := Finset.univ)
    (S := (oM.access (outR c j r)).set) (Finset.Subset.refl _)) $$ Ho; iintro Ho
  iapply Hk
  isplitl [Hs Ho]
  · isplitl [Hs]
    · iexists fs; isplitr; · (ipureintro; exact hfs)
      iexact Hs
    iexists _
    isplitr [Ho]; rotate_left; · iexact Ho
    ipureintro
    rw [← hfs]
    exact View.read_write_univ _ _
  iexists W; iexact HO

/-- Every step does what `need` and `give` say. -/
theorem rule : ∀ s, Sound X K s
  | .signal i => sound_signal X K i
  | .boot j => sound_boot X K j
  | .gate => sound_gate X K
  | .send j t => sound_send X K j t
  | .recv j t => sound_recv X K j t
  | .drain j t => sound_drain X K j t
  | .store j r => sound_store X K j r

end Cert.Gather

end
-- ==== Proof.Walk.lean ====
/-
# The whole list of steps

A device walks the list of steps holding a set of atoms: each step must find the atoms it takes (`need`), must not leave one
twice, and may wait only on a cell that lies below everything the device still owes. `fine` says so of a step, `walk` proves that
a fine list takes the device from its first holdings to its last, and `order_fine` is the check of the program's own list, with
the holdings it starts (`first`) and ends (`last`) with.
-/
module

public import proofs.«01_k».proof.Proof.Rules

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x512 .bf16)

/-! ## What is owed -/

/-- The level of the cell an atom's debt is for. -/
def promise : Atom → Option ℕ
  | .bsig _ => some 1
  | .pend _ t => some (2 + min t.val 3)
  | _ => none

theorem debt_none (c : Dev nD) (a : Atom) (h : promise a = none) : debt c a = 0 := by
  cases a <;> first | rfl | simp [promise] at h

theorem debt_pos {c : Dev nD} {a : Atom} {g : GSem nD τ sig} {u : Unit} (h : 0 < debt c a g u) :
    ∃ (d : Dev nD) (k : Cell), g = kcell (d, k) ∧ promise a = some (levelOf k) := by
  cases a with
  | bsig i => exact ⟨peer c i, none, (Pipeline.tallyAt_pos h).1, rfl⟩
  | pend j t => exact ⟨peer c (via j t), some (true, j, t), (Pipeline.tallyAt_pos h).1, rfl⟩
  | _ => exact absurd h (Nat.lt_irrefl 0)

theorem debts_pos {c : Dev nD} {S : Finset Atom} {g : GSem nD τ sig} {u : Unit} (h : 0 < (∑ a ∈ S, debt c a) g u) :
    ∃ a ∈ S, ∃ (d : Dev nD) (k : Cell), g = kcell (d, k) ∧ promise a = some (levelOf k) := by
  rw [Finset.sum_apply, Finsupp.finset_sum_apply] at h
  obtain ⟨a, ha, hp⟩ := Finset.exists_ne_zero_of_sum_ne_zero h.ne'
  exact ⟨a, ha, debt_pos (Nat.pos_of_ne_zero hp)⟩

/-- A device may wait on a semaphore at level `b` while everything it owes is for cells above `b`. -/
theorem may_wait (c : Dev nD) (sm : SemLoc sig) (b : ℕ) (hb : lv ((c : Thread nD τ), sm) () ≤ b) (S : Finset Atom)
    (h : ∀ a ∈ S, ∀ l, promise a = some l → b < l) :
    (levAts L lv : sProp 𝕄) ⊢ MayWait (c : Thread nD τ) sm () (∑ a ∈ S, debt c a) :=
  MayOwe.of_cut (L := L) (lev := lv) b (fun p hp => by rw [Finset.mem_singleton.mp hp, L_tc]; exact Finset.mem_singleton_self _)
    (fun g u hg => by
      obtain ⟨a, -, d, k, rfl, -⟩ := debts_pos hg
      exact Finset.mem_singleton_self _)
    (fun p hp => by rw [Finset.mem_singleton.mp hp]; exact hb)
    (fun g u hg => by
      obtain ⟨a, ha, d, k, rfl, hk⟩ := debts_pos hg
      cases u
      rw [lv_kcell]; exact h a ha _ hk)

/-! ## Walking -/

/-- The step's wait, if it waits, is on a cell below everything in `S` that is owed. -/
def below (s : Step) (S : Finset Atom) : Bool := match waitsOn s with
  | none => true
  | some q => decide (∀ a ∈ S, (promise a).all fun l => decide (levelOf q < l))

/-- Step `s` can be taken with the atoms `S`, -/
def fine (s : Step) (S : Finset Atom) : Bool :=
  decide (need s ⊆ S) && decide (Disjoint (S \ need s) (give s)) && decide (∀ a ∈ give s, promise a = none) && below s (S \ need s)
/-- and leaves these. -/
def after (s : Step) (S : Finset Atom) : Finset Atom := (S \ need s) ∪ give s

def fineAll : List Step → Finset Atom → Bool
  | [], _ => true
  | s :: l, S => fine s S && fineAll l (after s S)
def afterAll : List Step → Finset Atom → Finset Atom
  | [], S => S
  | s :: l, S => afterAll l (after s S)

/-- What device `c` has while it holds the atoms `S`: their resources, and their debts. -/
def holds (c : Dev nD) (S : Finset Atom) : sProp 𝕄 :=
  iprop(bigSep S (res X c) ∗ ∃ W, owes (c : Thread nD τ) (∑ a ∈ S, debt c a) W)

theorem below_spec {s : Step} {S : Finset Atom} (h : below s S = true) (c : Dev nD) (q : Cell) (hq : waitsOn s = some q) :
    (levAts L lv : sProp 𝕄) ⊢ MayWait (c : Thread nD τ) (csem q) () (∑ a ∈ S, debt c a) := by
  unfold below at h; rw [hq] at h
  refine may_wait c (csem q) (levelOf q) (lv_kcell c q).le S fun a ha l hl => ?_
  have := of_decide_eq_true h a ha
  rw [hl] at this; exact of_decide_eq_true this

variable (K : Dev nD × Cell → ℕ)

/-- A fine step takes the device from `S` to `after s S`. -/
theorem step (s : Step) (S : Finset Atom) (h : fine s S = true) (c : Dev nD) (k : BodyProg F) (Q : PUnit → sProp 𝕄) :
    iprop((records X K ∗ levAts L lv) ∗ holds X c S)
      ⊢ iprop((holds X c (after s S) -∗ wp frame (wpE (defs₀ (F := F)) 𝒱₀ (c : Thread nD τ) none) Set.univ k Q)
        -∗ wp frame (wpE (defs₀ (F := F)) 𝒱₀ (c : Thread nD τ) none) Set.univ (stepThen c s k) Q) := by
  unfold fine at h
  simp only [Bool.and_eq_true, decide_eq_true_eq] at h
  obtain ⟨⟨⟨hsub, hdis⟩, hno⟩, hbel⟩ := h
  have hS : (bigSep S (res X c) : sProp 𝕄) ⊢ iprop(bigSep (need s) (res X c) ∗ bigSep (S \ need s) (res X c)) :=
    Entails.of_eq (bigSep_sdiff_split hsub)
  have hA : iprop(bigSep (S \ need s) (res X c) ∗ bigSep (give s) (res X c)) ⊢ (bigSep (after s S) (res X c) : sProp 𝕄) :=
    Entails.of_eq (bigSep_union hdis).symm
  have hO : ∑ a ∈ S, debt c a = ∑ a ∈ S \ need s, debt c a + ∑ a ∈ need s, debt c a := (Finset.sum_sdiff hsub).symm
  have hO' : ∑ a ∈ after s S, debt c a = ∑ a ∈ S \ need s, debt c a := by
    unfold after; rw [Finset.sum_union hdis, Finset.sum_eq_zero fun a ha => debt_none c a (hno a ha), add_zero]
  unfold holds
  rw [hO, hO']
  iintro ⟨#HR, HS, ⟨%W, HW⟩⟩ Hk
  ihave H := hS $$ HS
  icases H with ⟨Hn, Hr⟩
  iapply (rule X K s c (∑ a ∈ S \ need s, debt c a) W k Q (below_spec hbel c)) $$ [Hn HW]
  · isplitr; · iexact HR
    isplitl [Hn] <;> iassumption
  iintro ⟨Hg, HW⟩
  iapply Hk
  isplitl [Hr Hg]
  · iapply hA; isplitl [Hr] <;> iassumption
  iexact HW

/-- A fine list takes the device from `S` to `afterAll l S`. -/
theorem walk (c : Dev nD) (Q : PUnit → sProp 𝕄) : ∀ (l : List Step) (S : Finset Atom), fineAll l S = true →
    iprop((records X K ∗ levAts L lv) ∗ holds X c S)
      ⊢ iprop((holds X c (afterAll l S) -∗ Q ⟨⟩) -∗ wp frame (wpE (defs₀ (F := F)) 𝒱₀ (c : Thread nD τ) none) Set.univ (runSteps c l) Q)
  | [], S, _ => by
    unfold afterAll
    show _ ⊢ iprop((holds X c S -∗ Q ⟨⟩) -∗ wp frame (wpE (defs₀ (F := F)) 𝒱₀ (c : Thread nD τ) none) Set.univ (Prog.ret ⟨⟩) Q)
    rw [wp_ret]
    iintro ⟨-, H⟩ Hk
    imodintro
    iapply Hk; iexact H
  | s :: l, S, h => by
    unfold fineAll at h
    rw [Bool.and_eq_true] at h
    unfold afterAll
    iintro ⟨#HR, H⟩ Hk
    iapply (step X K s S h.1 c (runSteps c l) Q) $$ [H]
    · isplitr <;> iassumption
    iintro H
    iapply (walk c Q l (after s S) h.2) $$ [H]
    · isplitr <;> iassumption
    iexact Hk

/-! ## The program's list -/

def bsigE : Fin 3 ↪ Atom := ⟨fun i => .bsig i, fun p q h => by injection h⟩
def rawE : Fin 3 ↪ Atom := ⟨fun i => .raw i, fun p q h => by injection h⟩
def pendE : Fin 3 × Fin 7 ↪ Atom := ⟨fun p => .pend p.1 p.2, fun p q h => by injection h with h1 h2; exact Prod.ext h1 h2⟩
def dueE : Fin 3 × Fin 7 ↪ Atom := ⟨fun p => .due p.1 p.2, fun p q h => by injection h with h1 h2; exact Prod.ext h1 h2⟩
def sentE : Fin 3 × Fin 7 ↪ Atom := ⟨fun p => .sent p.1 p.2, fun p q h => by injection h with h1 h2; exact Prod.ext h1 h2⟩
def gotE : Fin 3 × Fin 7 ↪ Atom := ⟨fun p => .got p.1 p.2, fun p q h => by injection h with h1 h2; exact Prod.ext h1 h2⟩
def orawE : Fin 3 × Fin 8 ↪ Atom := ⟨fun p => .oraw p.1 p.2, fun p q h => by injection h with h1 h2; exact Prod.ext h1 h2⟩
def ofinE : Fin 3 × Fin 8 ↪ Atom := ⟨fun p => .ofin p.1 p.2, fun p q h => by injection h with h1 h2; exact Prod.ext h1 h2⟩
def allKeptE : (Fin 3 × Fin 8) × Fin 4 ↪ Atom :=
  ⟨fun p => .kept p.1.1 p.1.2 p.2, fun p q h => by injection h with h1 h2 h3; exact Prod.ext (Prod.ext h1 h2) h3⟩

/-- The atoms a device starts with, -/
def first : Finset Atom :=
  insert .gateIn (insert .block (Finset.univ.map bsigE ∪ (Finset.univ.map rawE ∪ (Finset.univ.map mineE ∪ (Finset.univ.map pendE
    ∪ (Finset.univ.map dueE ∪ Finset.univ.map orawE))))))
/-- and those it ends with. -/
def last : Finset Atom :=
  insert .gateOut (insert .block (Finset.univ.map sentE ∪ (Finset.univ.map gotE ∪ (Finset.univ.map allKeptE ∪ Finset.univ.map ofinE))))

set_option maxRecDepth 100000 in
/-- The program's list can be walked from the first atoms, and ends with the last. -/
theorem order_fine : fineAll order first = true ∧ afterAll order first = last := by decide +kernel

end Cert.Gather

end
-- ==== Proof.Deal.lean ====
/-
# What the launch deals the devices

The launch hands out, for each cell, its counter at zero, its round state and its duty tokens, and for each unit a device owes a
credit to the device whose cell it is for. One update over all devices opens every cell; the tokens of a cell then go to the
devices that pay into it, and each device ends up with the atoms `first` lists.
-/
module

public import proofs.«01_k».proof.Proof.Walk

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x512 .bf16)

/-! ## The cells, one kind after the other -/

theorem bigSep_option {A : Type} [Fintype A] (Φ : Option A → sProp 𝕄) :
    bigSep Finset.univ Φ = iprop(Φ none ∗ bigSep Finset.univ fun a => Φ (some a)) := by
  classical
  have h : (Finset.univ : Finset (Option A)) = insert none (Finset.univ.map Function.Embedding.some) := by
    ext o; cases o <;> simp
  rw [h, bigSep_insert (by simp), bigSep_map]; rfl

theorem bigSep_cells (Φ : Cell → sProp 𝕄) : bigSep Finset.univ Φ = iprop(Φ none
    ∗ (bigSep Finset.univ fun p : Fin 3 × Fin 7 => Φ (some (false, p.1, p.2))) ∗ bigSep Finset.univ fun p : Fin 3 × Fin 7 => Φ (some (true, p.1, p.2))) := by
  rw [bigSep_option, bigSep_univ_prod, bigSep_univ_eq_bigSepL [false, true] (by decide) (by decide)]; rfl

/-- A device's cells' semaphores that the kernel declares itself: all but the barrier's. -/
abbrev osem (q : Bool × Fin 3 × Fin 7) : SemLoc sig := csem (some q)

theorem ownSemFacts : Pipeline.OwnSemFacts cfg0.spec osem := by decide +kernel

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

/-- The launch's semaphores at zero are the cells' counters at zero. -/
theorem sems_eq (c : Dev nD) : (bigSep Finset.univ fun k : Cell => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_option, unscopedSems0_eq]; rfl

/-! ## The cells opened -/

/-- The cells of the gather, on all devices. -/
def ringCells : Finset (GSem nD τ sig) := Finset.univ.map ⟨kcell, kcell_inj⟩

/-- The duties of a device's cells: the barrier's three, and one of each other cell. -/
abbrev dutyOf (q : Dev nD × (Fin 3 ⊕ (Bool × Fin 3 × Fin 7))) : GSem nD τ sig × ℕ × Fin 3 := match q.2 with
  | .inl i => (barCell q.1, 0, i)
  | .inr k => (kcell (q.1, some k), 0, 0)

theorem dutyOf_inj : Function.Injective dutyOf := by
  rintro ⟨c, a | a⟩ ⟨d, b | b⟩ h
  · have h1 := kcell_inj (congrArg Prod.fst h)
    have h2 : a = b := congrArg (fun x => x.2.2) h
    exact Prod.ext (Prod.mk.inj h1).1 (congrArg Sum.inl h2)
  · exact absurd (Prod.mk.inj (kcell_inj (congrArg Prod.fst h))).2 (by simp)
  · exact absurd (Prod.mk.inj (kcell_inj (congrArg Prod.fst h))).2 (by simp)
  · have h1 := Prod.mk.inj (kcell_inj (congrArg Prod.fst h))
    exact Prod.ext h1.1 (congrArg Sum.inr (Option.some.inj h1.2))

def ringToks : Finset (GSem nD τ sig × ℕ × Fin 3) := Finset.univ.map ⟨dutyOf, dutyOf_inj⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 3 => dutyTok ER (barCell c) 0 i) ∗ (bigSep Finset.univ fun p : Fin 3 × Fin 7 => dutyTok ER (sendCell c p.1 p.2) 0 0)
    ∗ bigSep Finset.univ fun p : Fin 3 × Fin 7 => dutyTok ER (recvCell c p.1 p.2) 0 0)

/-- What the protocol's own state deals device `c`. -/
def G (c : Dev nD) : sProp 𝕄 :=
  iprop((bigSep Finset.univ fun k : Cell => roundState ER (sched X) (kcell (c, k)) 0)
    ∗ (bigSep Finset.univ fun k : Cell => iprop(atPos ER (kcell (c, k)) 0 ∅ 0 ∗ reached ER (kcell (c, k)) 0)) ∗ toks c)

theorem toks_eq (c : Dev nD) : (bigSep Finset.univ fun q : Fin 3 ⊕ (Bool × Fin 3 × Fin 7) =>
    dutyTok ER (dutyOf (c, q)).1 (dutyOf (c, q)).2.1 (dutyOf (c, q)).2.2 : sProp 𝕄) = toks c := by
  have h : (Finset.univ : Finset (Fin 3 ⊕ (Bool × Fin 3 × Fin 7)))
      = Finset.univ.map Function.Embedding.inl ∪ (Finset.univ.map ⟨fun p : Fin 3 × Fin 7 => .inr (false, p), fun p q h => by simpa using h⟩
        ∪ Finset.univ.map ⟨fun p : Fin 3 × Fin 7 => .inr (true, p), fun p q h => by simpa using h⟩) := by decide +kernel
  rw [h, bigSep_union (by decide +kernel), bigSep_union (by decide +kernel), bigSep_map, bigSep_map, bigSep_map]; rfl

theorem fund_ring : BI.own (ER (initOf ringCells ringToks)) ⊢ (|==> bigSep Finset.univ (G X) : sProp 𝕄) := by
  have hc (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have ht : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro H
  imod (Rounds.fund ER (sched X) ringCells ringToks) $$ H with ⟨Hst, Hr, Hat, Htok⟩
  imodintro
  ihave Hst := (Entails.of_eq (hc fun g => roundState ER (sched X) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold G; simp only [bigSep_sep']
  isplitl [Hst]; · iexact Hst
  isplitl [Hat Hr]
  · isplitl [Hat] <;> iassumption
  iexact Htok

/-- A device's cells opened: their invariants from their counters and round states. -/
theorem open_cells (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (sched X) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Cell => semVal (kcell (c, k)) 0) ∗ bigSep Finset.univ fun k : Cell => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- Things indexed by a device, dealt around by a permutation of the devices for each kind of thing. -/
theorem deal {A : Type} [Fintype A] (e : A → Dev nD ≃ Dev nD) (Φ : Dev nD → A → sProp 𝕄) :
    (bigSep Finset.univ fun c : Dev nD => bigSep Finset.univ fun a => Φ c a)
      = bigSep Finset.univ fun c : Dev nD => bigSep Finset.univ fun a => Φ (e a c) a := by
  rw [bigSep_univ_comm, bigSep_congr fun a _ => bigSep_univ_equiv (e a) fun c => Φ c a, bigSep_univ_comm]

/-- What a device holds of the protocol's state at the start, besides the credits: the atoms in which it can signal, gate, send and
    await. -/
def rights (c : Dev nD) : sProp 𝕄 :=
  iprop((bigSep Finset.univ fun i : Fin 3 => dutyTok ER (barCell (peer c i)) 0 i) ∗ atPos ER (barCell c) 0 ∅ 0
    ∗ (bigSep Finset.univ fun p : Fin 3 × Fin 7 => iprop(dutyTok ER (sendCell c p.1 p.2) 0 0
        ∗ dutyTok ER (recvCell (peer c (via p.1 p.2)) p.1 p.2) 0 0 ∗ atPos ER (sendCell c p.1 p.2) 0 ∅ 0))
    ∗ bigSep Finset.univ fun p : Fin 3 × Fin 7 => atPos ER (recvCell c p.1 p.2) 0 ∅ 0)

/-- What the one update over all devices makes for device `c`. -/
def G' (c : Dev nD) : sProp 𝕄 := iprop(∃ K, records X K ∗ rights c)

theorem dealt : iprop((bigSep Finset.univ fun c : Dev nD => bigSep Finset.univ fun k : Cell => (atPos ER (kcell (c, k)) 0 ∅ 0 : sProp 𝕄))
      ∗ bigSep Finset.univ fun c : Dev nD => toks c) ⊢ bigSep Finset.univ fun c : Dev nD => rights c := by
  unfold toks rights
  simp only [bigSep_cells, bigSep_sep']
  rw [deal around fun c i => dutyTok ER (barCell c) 0 i,
    deal (fun p : Fin 3 × Fin 7 => around (via p.1 p.2)) fun c p => dutyTok ER (recvCell c p.1 p.2) 0 0]
  iintro ⟨⟨HaB, HaS, HaR⟩, HtB, HtS, HtR⟩
  isplitl [HtB]; · iexact HtB
  isplitl [HaB]; · iexact HaB
  isplitl [HtS HtR HaS]
  · isplitl [HtS]; · iexact HtS
    isplitl [HtR]; · iexact HtR
    iexact HaS
  iexact HaR

/-- A persistent fact goes to every part. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched X) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Cell => iprop(∃ κ : ℕ, cellInv ER (sched X) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, HR⟩, Htok⟩
  ihave HK := (BI.bigSep_exists_pi Finset.univ (fun (ck : Dev nD × Cell) (κ : ℕ) => (cellInv ER (sched X) κ (kcell ck) : sProp 𝕄))) $$ HI
  icases HK with ⟨%K, HI⟩
  ihave Hd := (dealt (F := F)) $$ [Hat Htok]
  · isplitl [Hat] <;> iassumption
  iapply (spread (R := records X K) (Φ := rights) fun c _ => show iprop(records X K ∗ rights c) ⊢ G' X c by unfold G'; iintro H; iexists K; iexact H)
  isplitl [HI HR]
  · unfold records; rw [bigSep_sep']
    isplitl [HI] <;> iassumption
  iexact Hd

/-- The one update over all devices: every cell opened, and the tokens dealt. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => open_cells X c).trans (bigSep_fupd _ _)).trans (BI.fupd_mono (regroup X))

/-! ## The credits -/

/-- What device `c` owes at the start. -/
def O₀ (c : Dev nD) : CellTallies nD τ sig Unit := ∑ a ∈ first, debt c a

theorem owed_start (c : Dev nD) : O₀ c = (∑ i, tallyAt (barCell (peer c i)) () 1)
    + ∑ p : Fin 3 × Fin 7, tallyAt (recvCell (peer c (via p.1 p.2)) p.1 p.2) () (N p.1) := by
  have h1 : Finset.univ.map bsigE ∪ Finset.univ.map pendE ⊆ first := by decide +kernel
  have h2 : ∀ a ∈ first, a ∉ Finset.univ.map bsigE ∪ Finset.univ.map pendE → promise a = none := by decide +kernel
  have h3 : Disjoint (Finset.univ.map bsigE) (Finset.univ.map pendE) := by decide +kernel
  unfold O₀
  rw [← Finset.sum_subset h1 fun a ha hn => debt_none c a (h2 a ha hn), Finset.sum_union h3, Finset.sum_map, Finset.sum_map]
  rfl

/-- What all devices together owe a cell of `c`, when each owes `n` to the cell `k` of its neighbour. -/
theorem sum_owed (e : Dev nD ≃ Dev nD) (c : Dev nD) (k k' : Cell) (n : ℕ) :
    ∑ d, (tallyAt (kcell (e d, k)) () n : CellTallies nD τ sig Unit) (kcell (c, k')) () = if k' = k then n else 0 := by
  rw [Finset.sum_eq_single (e.symm c) (fun d _ hd => ?_) fun h => absurd (Finset.mem_univ _) h, tallyAt_apply, e.apply_symm_apply]
  · by_cases hk : k' = k
    · rw [if_pos hk, if_pos ⟨by rw [hk], rfl⟩]
    · rw [if_neg hk, if_neg fun h => hk (Prod.mk.inj (kcell_inj h.1)).2]
  · rw [tallyAt_apply, if_neg fun h => hd (by rw [(Prod.mk.inj (kcell_inj h.1)).1, e.symm_apply_apply])]

theorem launch_credit (c : Dev nD) (k : Cell) : launchCredit (Pipeline.owing O₀) 0 (kcell (c, k)) ()
    = (∑ i : Fin 3, if k = none then 1 else 0) + ∑ p : Fin 3 × Fin 7, if k = some (true, p.1, p.2) then N p.1 else 0 := by
  rw [Pipeline.launchCredit_owing]
  have h : ∀ d : Dev nD, O₀ d (kcell (c, k)) () = (∑ i, (tallyAt (kcell (around i d, none)) () 1 : CellTallies nD τ sig Unit) (kcell (c, k)) ())
      + ∑ p : Fin 3 × Fin 7, (tallyAt (kcell (around (via p.1 p.2) d, some (true, p.1, p.2))) () (N p.1) : CellTallies nD τ sig Unit) (kcell (c, k)) () := fun d => by
    rw [owed_start, Pi.add_apply, Finsupp.add_apply, Finset.sum_apply, Finset.sum_apply, Finsupp.finset_sum_apply, Finsupp.finset_sum_apply]
    rfl
  rw [Finset.sum_congr rfl fun d _ => h d, Finset.sum_add_distrib]
  refine congrArg₂ (· + ·) (Finset.sum_comm.trans (Finset.sum_congr rfl fun i _ => ?_)) (Finset.sum_comm.trans (Finset.sum_congr rfl fun p _ => ?_))
  · exact sum_owed (around i) c none k 1
  · exact sum_owed (around (via p.1 p.2)) c (some (true, p.1, p.2)) k (N p.1)

theorem credit_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  rw [launch_credit, Finsupp.single_eq_same]
  simp
theorem credit_recv (c : Dev nD) (j : Fin 3) (t : Fin 7) :
    tallyOn (recvCell c j t) (launchCredit (Pipeline.owing O₀) 0 (recvCell c j t)) = (tallyAt (recvCell c j t) () (N j) : CellTallies nD τ sig Unit) := by
  unfold tallyAt; refine congrArg _ (Finsupp.ext fun u => ?_); cases u
  rw [launch_credit, Finsupp.single_eq_same, Finset.sum_eq_zero fun i _ => if_neg (by simp), Nat.zero_add,
    Finset.sum_eq_single (j, t) (fun p _ hp => if_neg fun h => hp ?_) fun h => absurd (Finset.mem_univ _) h, if_pos rfl]
  injection h with h; injection h with _ h; injection h with h1 h2
  exact Prod.ext h1.symm h2.symm

/-- The credits device `c` starts with: three units at its barrier, and each transfer it awaits. -/
theorem creds (c : Dev nD) : (Pipeline.launchCred O₀ c : sProp 𝕄)
    ⊢ iprop(cred (tallyAt (barCell c) () 3) ∗ bigSep Finset.univ fun p : Fin 3 × Fin 7 => cred (tallyAt (recvCell c p.1 p.2) () (N p.1))) := by
  unfold Pipeline.launchCred
  refine (bigSep_subset (Finset.subset_univ (Finset.univ.map ⟨csem, csem_inj⟩))).trans ?_
  rw [bigSep_map]
  have h := bigSep_cells (F := F) fun k => cred (tallyOn (kcell (c, k)) (launchCredit (Pipeline.owing O₀) 0 (kcell (c, k))))
  refine (Entails.of_eq h).trans ?_
  rw [credit_bar, bigSep_congr (s := Finset.univ) fun p : Fin 3 × Fin 7 => fun _ => congrArg cred (credit_recv c p.1 p.2)]
  iintro ⟨HB, -, HR⟩
  isplitl [HB] <;> iassumption

end Cert.Gather

end
-- ==== Proof.Buffers.lean ====
/-
# The buffers cut up, and what the result holds

Each part's buffer is its eight slots, and the result is its 24 stretches of rows: disjoint, and covering. This file cuts the
whole buffers up at the start (`cut_comm`, `cut_out`) and puts them together again at the end (`join_comm`, `join_out`), where the
result holds `stacked`: the devices' blocks, one under the other.
-/
module

public import proofs.«01_k».proof.Proof.Protocol
public import Idealize.ShloMosaic.Lib.Pipeline.Value
public import Idealize.ShloMosaic.Lib.Pipeline.ValueKit.Geometry

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (X : Dev nD → Vec F S512x512 .bf16)

/-! ## Contents over a family of disjoint rectangles -/

/-- Values given on each of a family of disjoint rectangles are the values of one function. -/
theorem exists_glue {s : Shape} {α : Type} [Nonempty α] {T : Type} (r : T → Rect s) (hd : ∀ t t', t ≠ t' → Disjoint (r t).set (r t').set)
    (G : (t : T) → (r t).shape.Idx → α) : ∃ Y : s.Idx → α, ∀ t, G t = fun x => Y ((r t).emb x) := by
  classical
  refine ⟨fun i => if h : ∃ p : (t : T) × (r t).shape.Idx, (r p.1).emb p.2 = i then G h.choose.1 h.choose.2 else Classical.arbitrary α,
    fun t => funext fun x => ?_⟩
  have h : ∃ p : (t : T) × (r t).shape.Idx, (r p.1).emb p.2 = (r t).emb x := ⟨⟨t, x⟩, rfl⟩
  refine Eq.trans ?_ (dif_pos h).symm
  have hs := h.choose_spec
  generalize h.choose = p at hs
  obtain ⟨t', x'⟩ := p
  by_cases ht : t' = t
  · subst ht; exact congrArg (G t') ((r t').emb.injective hs).symm
  · have h1 : (r t).emb x ∈ (r t').set := by rw [← hs, ← Rect.map_emb_univ]; exact Finset.mem_map_of_mem _ (Finset.mem_univ _)
    have h2 : (r t).emb x ∈ (r t).set := by rw [← Rect.map_emb_univ]; exact Finset.mem_map_of_mem _ (Finset.mem_univ _)
    exact absurd h2 (Finset.disjoint_left.mp (hd t' t ht) h1)

/-! ## The slots of a part's buffer -/

theorem mem_slotR {j : Fin 3} {r : Fin 8} {i : (slab j).Idx} : i ∈ (slotR j r).set ↔ (i 0).val = r.val := by
  rw [← Rect.map_emb_univ, Finset.mem_map]
  constructor
  · rintro ⟨x, -, rfl⟩
    have h := ValueKit.rect_emb_unit_val (s := slab j) ![r.val, 0, 0] (slotSh j).size (slot_inb j r) x 0
    have hx : (x 0).val < 1 := (x 0).isLt
    have h' : (![r.val, 0, 0] : Fin 3 → ℕ) 0 = r.val := rfl
    rw [h'] at h
    exact h.trans (by rw [Nat.lt_one_iff.mp hx, Nat.add_zero])
  · intro h
    refine ⟨fun a => match a with | ⟨0, _⟩ => ⟨0, Nat.one_pos⟩ | ⟨1, _⟩ => i 1 | ⟨2, _⟩ => i 2, Finset.mem_univ _, ?_⟩
    funext a
    refine Fin.ext ((ValueKit.rect_emb_unit_val (s := slab j) ![r.val, 0, 0] (slotSh j).size (slot_inb j r) _ a).trans ?_)
    match a with
    | ⟨0, _⟩ => exact h.symm
    | ⟨1, _⟩ => exact Nat.zero_add _
    | ⟨2, _⟩ => exact Nat.zero_add _

theorem slot_disjoint (j : Fin 3) (r r' : Fin 8) (h : r ≠ r') : Disjoint (slotR j r).set (slotR j r').set :=
  Finset.disjoint_left.mpr fun i h1 h2 => h (Fin.ext ((mem_slotR.mp h1).symm.trans (mem_slotR.mp h2)))
theorem slot_cover (j : Fin 3) : (Finset.univ : Finset (Fin 8)).biUnion (fun r => (slotR j r).set) = Finset.univ :=
  Finset.eq_univ_of_forall fun i => Finset.mem_biUnion.mpr ⟨⟨(i 0).val, (i 0).isLt⟩, Finset.mem_univ _, mem_slotR.mpr rfl⟩

/-- Part `j`'s whole buffer at any contents. -/
def commAny (c : Dev nD) (j : Fin 3) : sProp 𝕄 := iprop(∃ Y, owns (c : Thread nD τ) (comm j) fullShare Y)

/-- The buffer is its eight slots, -/
theorem cut_comm (c : Dev nD) (j : Fin 3) : (commAny c j : sProp 𝕄) ⊢ bigSep Finset.univ fun r => slotAny c j r := by
  unfold commAny
  iintro ⟨%Y, H⟩
  ihave H := (owns_rects (c : Thread nD τ) (comm j) fullShare (slotR j) (fun _ _ => rfl) (slot_disjoint j) (slot_cover j) Y) $$ H
  have h : (bigSep Finset.univ fun r => (owns (c : Thread nD τ) (slot j r) fullShare fun i => Y ((slotR j r).emb i)) : sProp 𝕄)
      ⊢ bigSep Finset.univ fun r => slotAny c j r :=
    bigSep_mono fun r _ => show _ ⊢ slotAny c j r by unfold slotAny; iintro H; iexists _; iexact H
  iapply h
  iexact H

/-- and its eight slots, filled, are the buffer. -/
theorem join_comm (c : Dev nD) (j : Fin 3) : (bigSep Finset.univ fun r => slotAt X c j r fullShare : sProp 𝕄) ⊢ commAny c j := by
  haveI := Elt.nonempty F .bf16
  obtain ⟨Y, hY⟩ := exists_glue (α := Elt F .bf16) (slotR j) (slot_disjoint j) (fun r => held X j (origin c j r))
  have h : (bigSep Finset.univ fun r => slotAt X c j r fullShare : sProp 𝕄)
      = bigSep Finset.univ fun r => owns (c : Thread nD τ) (slot j r) fullShare fun i => Y ((slotR j r).emb i) :=
    bigSep_congr fun r _ => by unfold slotAt; rw [hY r]; rfl
  rw [h]
  unfold commAny
  iintro H
  iexists Y
  iapply (owns_of_rects (c : Thread nD τ) (comm j) fullShare (slotR j) (fun _ _ => rfl) (slot_disjoint j) (slot_cover j) Y)
  iexact H

/-! ## The stretches of the result -/

/-- The stretch of the result from slot `p.2` of part `p.1`. -/
abbrev outT (c : Dev nD) (p : Fin 3 × Fin 8) : Rect S4096x512 := outR c p.1 p.2

theorem part_rows (j : Fin 3) : startOf j + rowsOf j ≤ 512 := by revert j; decide

theorem out_emb (c : Dev nD) (j : Fin 3) (r : Fin 8) (x : (tile j).Idx) :
    ((outR c j r).emb x 0).val = (origin c j r).val * 512 + (startOf j + (x 0).val) ∧ ((outR c j r).emb x 1).val = (x 1).val := by
  have h0 := ValueKit.rect_emb_unit_val (s := S4096x512) (outOff c j r) (tile j).size (out_inb c j r) x 0
  have h1 := ValueKit.rect_emb_unit_val (s := S4096x512) (outOff c j r) (tile j).size (out_inb c j r) x 1
  have e0 : outOff c j r 0 = (origin c j r).val * 512 + startOf j := congrFun (outOff_eq c j r) 0
  have e1 : outOff c j r 1 = 0 := congrFun (outOff_eq c j r) 1
  rw [e0] at h0
  rw [e1] at h1
  exact ⟨h0.trans (Nat.add_assoc _ _ _), h1.trans (Nat.zero_add _)⟩

theorem out_block (c : Dev nD) (j : Fin 3) (r : Fin 8) (x : (tile j).Idx) :
    ((outR c j r).emb x 0).val / 512 = (origin c j r).val ∧ ((outR c j r).emb x 0).val % 512 = startOf j + (x 0).val := by
  have h := (out_emb c j r x).1
  have hx : (x 0).val < rowsOf j := (x 0).isLt
  have := part_rows j
  omega

theorem part_unique {j j' : Fin 3} {a b : ℕ} (ha : a < rowsOf j) (hb : b < rowsOf j') (h : startOf j + a = startOf j' + b) : j = j' := by
  match j, j' with
  | 0, 0 => rfl | 1, 1 => rfl | 2, 2 => rfl
  | 0, 1 => simp only [rowsOf, startOf] at *; omega
  | 0, 2 => simp only [rowsOf, startOf] at *; omega
  | 1, 0 => simp only [rowsOf, startOf] at *; omega
  | 1, 2 => simp only [rowsOf, startOf] at *; omega
  | 2, 0 => simp only [rowsOf, startOf] at *; omega
  | 2, 1 => simp only [rowsOf, startOf] at *; omega

theorem part_exists {a : ℕ} (h : a < 512) : ∃ j : Fin 3, startOf j ≤ a ∧ a - startOf j < rowsOf j := by
  by_cases h0 : a < 176
  · exact ⟨0, Nat.zero_le _, h0⟩
  by_cases h1 : a < 352
  · exact ⟨1, by simp only [startOf]; omega, by simp only [startOf, rowsOf]; omega⟩
  · exact ⟨2, by simp only [startOf]; omega, by simp only [startOf, rowsOf]; omega⟩

theorem origin_surj (c : Dev nD) (j : Fin 3) : Function.Surjective (origin c j) := by revert c j; decide +kernel

theorem out_disjoint (c : Dev nD) (p q : Fin 3 × Fin 8) (h : p ≠ q) : Disjoint (outT c p).set (outT c q).set :=
  Finset.disjoint_left.mpr fun i h1 h2 => h (by
    obtain ⟨j, r⟩ := p; obtain ⟨j', r'⟩ := q
    rw [← Rect.map_emb_univ, Finset.mem_map] at h1 h2
    obtain ⟨x, -, rfl⟩ := h1
    obtain ⟨y, -, hy⟩ := h2
    have hx := out_block c j r x
    have hy' := out_block c j' r' y
    have e : ((outR c j' r').emb y 0).val = ((outR c j r).emb x 0).val := congrArg (fun i : S4096x512.Idx => (i 0).val) hy
    rw [e] at hy'
    obtain rfl : j = j' := part_unique (x 0).isLt (y 0).isLt (hx.2.symm.trans hy'.2)
    rw [origin_inj c j (Fin.ext (hx.1.symm.trans hy'.1))])

theorem out_cover (c : Dev nD) : (Finset.univ : Finset (Fin 3 × Fin 8)).biUnion (fun p => (outT c p).set) = Finset.univ :=
  Finset.eq_univ_of_forall fun i => by
    have hi : (i 0).val < 4096 := (i 0).isLt
    obtain ⟨j, hj, hj'⟩ := part_exists (Nat.mod_lt (i 0).val (show 0 < 512 by decide))
    obtain ⟨r, hr⟩ := origin_surj c j ⟨(i 0).val / 512, by show _ < 8; omega⟩
    refine Finset.mem_biUnion.mpr ⟨(j, r), Finset.mem_univ _, ?_⟩
    rw [← Rect.map_emb_univ, Finset.mem_map]
    refine ⟨fun a => match a with | ⟨0, _⟩ => ⟨(i 0).val % 512 - startOf j, hj'⟩ | ⟨1, _⟩ => i 1, Finset.mem_univ _, ?_⟩
    funext a
    have h := out_emb c j r (fun a => match a with | ⟨0, _⟩ => ⟨(i 0).val % 512 - startOf j, hj'⟩ | ⟨1, _⟩ => i 1)
    rw [hr] at h
    match a with
    | ⟨0, _⟩ =>
      refine Fin.ext (h.1.trans ?_)
      show (i 0).val / 512 * 512 + (startOf j + ((i 0).val % 512 - startOf j)) = (i 0).val
      omega
    | ⟨1, _⟩ => exact Fin.ext h.2

/-- The devices' blocks, one under the other. -/
def stacked (X : Dev nD → Vec F S512x512 .bf16) : Vec F S4096x512 .bf16 := fun i =>
  X ⟨(i 0).val / 512, by have : (i 0).val < 4096 := (i 0).isLt; show _ < 8; omega⟩
    (fun a => match a with | ⟨0, _⟩ => ⟨(i 0).val % 512, Nat.mod_lt _ (by decide)⟩ | ⟨1, _⟩ => i 1)

/-- What a slot's store leaves is its stretch of the stacked blocks. -/
theorem stored_eq (c : Dev nD) (j : Fin 3) (r : Fin 8) :
    fromSlot j (held X j (origin c j r)) = fun x => stacked X ((outR c j r).emb x) := by
  have h : fromSlot j (held X j (origin c j r)) = piece X j (origin c j r) := by
    unfold held fromSlot intoSlot
    rw [shapeCast_self, shapeCast_shapeCast]
  rw [h]
  funext x
  have hb := out_block c j r x
  have he := out_emb c j r x
  have hd : (⟨((outR c j r).emb x 0).val / 512, by have : ((outR c j r).emb x 0).val < 4096 := ((outR c j r).emb x 0).isLt; show _ < 8; omega⟩ : Dev nD)
      = origin c j r := Fin.ext hb.1
  unfold stacked
  rw [hd]
  show X (origin c j r) ((partR j).emb x) = _
  refine congrArg (X (origin c j r)) (funext fun a => Fin.ext ?_)
  refine (ValueKit.rect_emb_unit_val (s := S512x512) ![startOf j, 0] (tile j).size (part_inb j) x a).trans ?_
  match a with
  | ⟨0, _⟩ => exact hb.2.symm
  | ⟨1, _⟩ => exact (Nat.zero_add _).trans he.2.symm

/-- The result's buffer, at any contents, is its stretches, -/
theorem cut_out (c : Dev nD) (Y : Vec F S4096x512 .bf16) : (owns (c : Thread nD τ) oM fullShare Y : sProp 𝕄)
    ⊢ bigSep Finset.univ fun p : Fin 3 × Fin 8 => iprop(∃ Y, owns (c : Thread nD τ) (oM.slice (outT c p) (fun _ => rfl)) fullShare Y) := by
  iintro H
  ihave H := (owns_rects (c : Thread nD τ) oM fullShare (outT c) (fun _ _ => rfl) (out_disjoint c) (out_cover c) Y) $$ H
  have h : (bigSep Finset.univ fun p => (owns (c : Thread nD τ) (oM.slice (outT c p) (fun _ => rfl)) fullShare fun i => Y ((outT c p).emb i)) : sProp 𝕄)
      ⊢ bigSep Finset.univ fun p => iprop(∃ Y, owns (c : Thread nD τ) (oM.slice (outT c p) (fun _ => rfl)) fullShare Y) :=
    bigSep_mono fun p _ => show _ ⊢ iprop(∃ Y, owns (c : Thread nD τ) (oM.slice (outT c p) (fun _ => rfl)) fullShare Y) by
      iintro H; iexists _; iexact H
  iapply h
  iexact H

/-- and the stretches stored are the result's buffer holding the stacked blocks. -/
theorem join_out (c : Dev nD) : (bigSep Finset.univ fun p : Fin 3 × Fin 8 =>
      owns (c : Thread nD τ) (oM.slice (outT c p) (fun _ => rfl)) fullShare (fromSlot p.1 (held X p.1 (origin c p.1 p.2))) : sProp 𝕄)
    ⊢ owns (c : Thread nD τ) oM fullShare (stacked X) := by
  rw [bigSep_congr fun p _ => by rw [stored_eq X c p.1 p.2]]
  exact owns_of_rects (c : Thread nD τ) oM fullShare (outT c) (fun _ _ => rfl) (out_disjoint c) (out_cover c) (stacked X)

end Cert.Gather

end
-- ==== Proof.Launch.lean ====
/-
# The run

The kernel's body takes a device from what the launch deals it to its result holding `stacked` (`body_obligation`), and the launch
theorem puts the devices together: every run ends, with each device's result at the devices' blocks one under the other, `x`
unchanged and every counter at zero (`run_arrays`).
-/
module

public import proofs.«01_k».proof.Proof.Deal
public import proofs.«01_k».proof.Proof.Buffers
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x512 .bf16)

/-! ## The atoms at the two ends -/

theorem bigSep_first (Φ : Atom → sProp 𝕄) : bigSep first Φ = iprop(Φ .gateIn ∗ Φ .block ∗ bigSep Finset.univ (fun i => Φ (.bsig i))
    ∗ bigSep Finset.univ (fun j => Φ (.raw j)) ∗ bigSep Finset.univ (fun p : Fin 3 × Fin 7 => Φ (.mine p.1 p.2))
    ∗ bigSep Finset.univ (fun p : Fin 3 × Fin 7 => Φ (.pend p.1 p.2)) ∗ bigSep Finset.univ (fun p : Fin 3 × Fin 7 => Φ (.due p.1 p.2))
    ∗ bigSep Finset.univ fun p : Fin 3 × Fin 8 => Φ (.oraw p.1 p.2)) := by
  unfold first
  rw [bigSep_cons (by decide +kernel), bigSep_cons (by decide +kernel), bigSep_union (by decide +kernel), bigSep_union (by decide +kernel),
    bigSep_union (by decide +kernel), bigSep_union (by decide +kernel), bigSep_union (by decide +kernel)]
  simp only [bigSep_map]; rfl

theorem bigSep_last (Φ : Atom → sProp 𝕄) : bigSep last Φ = iprop(Φ .gateOut ∗ Φ .block ∗ bigSep Finset.univ (fun p : Fin 3 × Fin 7 => Φ (.sent p.1 p.2))
    ∗ bigSep Finset.univ (fun p : Fin 3 × Fin 7 => Φ (.got p.1 p.2)) ∗ bigSep Finset.univ (fun p : (Fin 3 × Fin 8) × Fin 4 => Φ (.kept p.1.1 p.1.2 p.2))
    ∗ bigSep Finset.univ fun p : Fin 3 × Fin 8 => Φ (.ofin p.1 p.2)) := by
  unfold last
  rw [bigSep_cons (by decide +kernel), bigSep_cons (by decide +kernel), bigSep_union (by decide +kernel), bigSep_union (by decide +kernel),
    bigSep_union (by decide +kernel)]
  simp only [bigSep_map]; rfl

/-- What the first atoms stand for, -/
theorem first_eq (c : Dev nD) : bigSep first (res X c) = iprop((atPos ER (barCell c) 0 ∅ 0 ∗ cred (tallyAt (barCell c) () 3))
    ∗ (((c : Thread nD τ).loc cc0_stg0_0) ↦{fullShare} X c) ∗ bigSep Finset.univ (fun i => dutyTok ER (barCell (peer c i)) 0 i)
    ∗ bigSep Finset.univ (fun j => slotAny c j 0) ∗ bigSep Finset.univ (fun p : Fin 3 × Fin 7 => slotAny c p.1 (dstOf p.2))
    ∗ bigSep Finset.univ (fun p : Fin 3 × Fin 7 => iprop(dutyTok ER (sendCell c p.1 p.2) 0 0
        ∗ dutyTok ER (recvCell (peer c (via p.1 p.2)) p.1 p.2) 0 0 ∗ atPos ER (sendCell c p.1 p.2) 0 ∅ 0))
    ∗ ((bigSep Finset.univ fun p : Fin 3 × Fin 7 => cred (tallyAt (recvCell c p.1 p.2) () (N p.1)))
        ∗ bigSep Finset.univ fun p : Fin 3 × Fin 7 => atPos ER (recvCell c p.1 p.2) 0 ∅ 0)
    ∗ bigSep Finset.univ fun p : Fin 3 × Fin 8 => iprop(∃ Y, owns (c : Thread nD τ) (outM c p.1 p.2) fullShare Y)) := by
  rw [bigSep_first, ← bigSep_sep']; rfl

/-- and what the last ones do. -/
theorem last_eq (c : Dev nD) : bigSep last (res X c) = iprop(semVal (barCell c) 0 ∗ (((c : Thread nD τ).loc cc0_stg0_0) ↦{fullShare} X c)
    ∗ bigSep Finset.univ (fun p : Fin 3 × Fin 7 => semVal (sendCell c p.1 p.2) 0) ∗ bigSep Finset.univ (fun p : Fin 3 × Fin 7 => semVal (recvCell c p.1 p.2) 0)
    ∗ bigSep Finset.univ (fun p : (Fin 3 × Fin 8) × Fin 4 => slotAt X c p.1.1 p.1.2 (quarter p.2))
    ∗ bigSep Finset.univ fun p : Fin 3 × Fin 8 => owns (c : Thread nD τ) (outM c p.1 p.2) fullShare (fromSlot p.1 (held X p.1 (origin c p.1 p.2)))) := by
  rw [bigSep_last]; rfl

/-- A buffer's slots are its slot 0 and those the seven transfers fill. -/
theorem bigSep_slots (Φ : Fin 8 → sProp 𝕄) : bigSep Finset.univ Φ = iprop(Φ 0 ∗ bigSep Finset.univ fun t : Fin 7 => Φ (dstOf t)) := by
  have h : (Finset.univ : Finset (Fin 8)) = insert 0 (Finset.univ.map ⟨dstOf, by decide⟩) := by decide
  rw [h, bigSep_insert (by decide), bigSep_map]; rfl

/-- The three buffers, at any contents, -/
def scratch (c : Dev nD) : sProp 𝕄 := bigSep Finset.univ fun j => commAny c j

theorem scratch_eq (c : Dev nD) : (scratch c : sProp 𝕄) = Pipeline.scopedRest cfg0.spec c := by
  unfold scratch commAny
  rw [scopedRest0_eq, bigSep_univ_eq_bigSepL [0, 1, 2] (by decide) (by decide)]
  have h (b : Ref sig .tc) : (iprop(∃ Y, owns (c : Thread nD τ) (Memref.whole b) fullShare Y) : sProp 𝕄)
      = iprop(∃ f : Buf (Elt F) ((c : Thread nD τ).loc b), ((c : Thread nD τ).loc b) ↦{fullShare} f) := by simp only [owns_whole]
  rw [← h, ← h, ← h]; rfl

/-- are all the slots, -/
theorem cut_scratch (c : Dev nD) : (scratch c : sProp 𝕄)
    ⊢ iprop((bigSep Finset.univ fun j : Fin 3 => slotAny c j 0) ∗ bigSep Finset.univ fun p : Fin 3 × Fin 7 => slotAny c p.1 (dstOf p.2)) := by
  unfold scratch
  have h : (bigSep Finset.univ fun j : Fin 3 => bigSep Finset.univ fun r => slotAny c j r : sProp 𝕄)
      = iprop((bigSep Finset.univ fun j : Fin 3 => slotAny c j 0) ∗ bigSep Finset.univ fun p : Fin 3 × Fin 7 => slotAny c p.1 (dstOf p.2)) := by
    simp only [bigSep_slots]
    rw [bigSep_sep', bigSep_univ_prod]
  rw [← h]
  exact bigSep_mono fun j _ => cut_comm c j

/-- and all the quarters of the filled slots are the three buffers. -/
theorem join_scratch (c : Dev nD) : (bigSep Finset.univ fun p : (Fin 3 × Fin 8) × Fin 4 => slotAt X c p.1.1 p.1.2 (quarter p.2) : sProp 𝕄) ⊢ scratch c := by
  unfold scratch
  rw [bigSep_univ_prod, bigSep_univ_prod]
  refine bigSep_mono fun j _ => Entails.trans (Entails.of_eq ?_) (join_comm X c j)
  exact bigSep_congr fun r _ => (slotAt_quarters X c j r).symm

/-- What device `c` starts its body with, besides its block and its result. -/
def start (c : Dev nD) : sProp 𝕄 :=
  iprop(G' X c ∗ levAts L lv ∗ cred (tallyAt (barCell c) () 3) ∗ bigSep Finset.univ fun p : Fin 3 × Fin 7 => cred (tallyAt (recvCell c p.1 p.2) () (N p.1)))

/-- The counters of all of `c`'s cells, at zero. -/
def quiet (c : Dev nD) : sProp 𝕄 := bigSep Finset.univ fun k : Cell => semVal (kcell (c, k)) 0

/-- With its block and its result, that makes the first atoms; -/
theorem holds_first (c : Dev nD) (Y : Vec F S4096x512 .bf16) (W : Waits sig Unit) :
    iprop((rights c ∗ cred (tallyAt (barCell c) () 3) ∗ bigSep Finset.univ fun p : Fin 3 × Fin 7 => cred (tallyAt (recvCell c p.1 p.2) () (N p.1)))
      ∗ scratch c ∗ owes (c : Thread nD τ) (O₀ c) W ∗ owns (c : Thread nD τ) xM fullShare (X c) ∗ owns (c : Thread nD τ) oM fullShare Y)
      ⊢ holds X c first := by
  unfold holds rights O₀
  rw [first_eq, owns_whole (c : Thread nD τ) cc0_stg0_0]
  iintro ⟨⟨⟨HtB, HaB, HS, HaR⟩, HcB, HcR⟩, Hscr, HW, Hx, Hout⟩
  ihave H := (cut_scratch c) $$ Hscr
  icases H with ⟨Hraw, Hmine⟩
  ihave Hout := (cut_out c Y) $$ Hout
  isplitr [HW]
  · isplitl [HaB HcB]
    · isplitl [HaB] <;> iassumption
    isplitl [Hx]; · iexact Hx
    isplitl [HtB]; · iexact HtB
    isplitl [Hraw]; · iexact Hraw
    isplitl [Hmine]; · iexact Hmine
    isplitl [HS]; · iexact HS
    isplitl [HcR HaR]
    · isplitl [HcR] <;> iassumption
    iexact Hout
  · iexists W; iexact HW

theorem owed_last (c : Dev nD) : ∑ a ∈ last, debt c a = 0 := by
  have h : ∀ a ∈ last, promise a = none := by decide +kernel
  exact Finset.sum_eq_zero fun a ha => debt_none c a (h a ha)

/-- and the last atoms are the quiet cells, the three buffers, the block and the stacked blocks. -/
theorem holds_last (c : Dev nD) : holds X c last
    ⊢ iprop((quiet c ∗ scratch c) ∗ (∃ W, owes (c : Thread nD τ) 0 W) ∗ owns (c : Thread nD τ) xM fullShare (X c) ∗ owns (c : Thread nD τ) oM fullShare (stacked X)) := by
  unfold holds quiet
  rw [last_eq, owed_last, bigSep_cells, owns_whole (c : Thread nD τ) cc0_stg0_0]
  iintro ⟨⟨HB, Hx, HS, HR, Hk, Hout⟩, HW⟩
  isplitl [HB HS HR Hk]
  · isplitl [HB HS HR]
    · isplitl [HB]; · iexact HB
      isplitl [HS]; · iexact HS
      iexact HR
    · iapply (join_scratch X c); iexact Hk
  isplitl [HW]; · iexact HW
  isplitl [Hx]; · iexact Hx
  iapply (join_out X c); iexact Hout

set_option maxRecDepth 65536 in
/-- The body takes a device from its first atoms to its last. -/
theorem sound_body (K : Dev nD × Cell → ℕ) (c : Dev nD) (Q : PUnit → sProp 𝕄) :
    iprop((records X K ∗ levAts L lv) ∗ holds X c first)
      ⊢ iprop((holds X c last -∗ Q ⟨⟩) -∗ wp frame (wpE (defs₀ (F := F)) 𝒱₀ (c : Thread nD τ) none) Set.univ (printedBody F) Q) := by
  rw [body_eq, wp_deviceId]
  have h := walk X K c Q order first order_fine.1
  rw [order_fine.2] at h
  exact h

/-! ## The pipeline's data -/

variable (m : (ℓ : Loc nD τ sig) → Buf (Elt F) ℓ) (ρ : Dev nD → PrngReg)

/-- The devices' blocks at the start. -/
def blocks (c : Dev nD) : Vec F S512x512 .bf16 := m ((c : Thread nD τ).loc main_arg0)

def dats (_ : Fin 1) (c : Dev nD) : Dat τ (Elt F) Unit ℕ UU ℕ cfg0 c where
  A w := m ((cfg0.win w).arr.view.loc (c : Thread nD τ))
  after w _ := match w with
    | ⟨0, _⟩ => blocks m c
    | ⟨1, _⟩ => stacked (blocks m)
  Φ t := match t with
    | ⟨0, _⟩ => iprop(start (blocks m) c ∗ scratch c)
    | ⟨_ + 1, _⟩ => iprop(quiet c ∗ scratch c)
  q _ := fullShare
  owed t := match t with
    | ⟨0, _⟩ => O₀ c
    | ⟨_ + 1, _⟩ => 0

theorem before_x (c : Dev nD) (d) : (dats m 0 c).before (0 : Fin 2) t0_0 d = blocks m c := by
  unfold Dat.before
  rw [if_pos (fetch0_0 t0_0)]
  funext i
  show m ((c : Thread nD τ).loc main_arg0) ((win0_0.blk t0_0).view.emb i) = m ((c : Thread nD τ).loc main_arg0) i
  refine congrArg _ (funext fun a => Fin.ext ?_)
  blk_simp
  rw [(by decide +kernel : ∀ a, win0_0.index t0_0 a = 0) a, Nat.zero_mul, Nat.zero_add]

theorem bigSep_win (Φ : Fin cfg0.W → sProp 𝕄) : bigSep Finset.univ Φ = iprop(Φ (0 : Fin 2) ∗ Φ (1 : Fin 2)) := bigSep_W0 Φ

def bodyPre (c : Dev nD) : sProp 𝕄 :=
  iprop((start (blocks m) c ∗ scratch c) ∗ (dats m 0 c).owesAt () t0_0.castSucc
    ∗ (∃ d, owns (c : Thread nD τ) xM fullShare ((dats m 0 c).before (0 : Fin 2) t0_0 d))
    ∗ (∃ d, owns (c : Thread nD τ) oM fullShare ((dats m 0 c).before (1 : Fin 2) t0_0 d)))
def bodyPost (c : Dev nD) : sProp 𝕄 :=
  iprop((quiet c ∗ scratch c) ∗ (dats m 0 c).owesAt () t0_0.succ ∗ owns (c : Thread nD τ) xM fullShare (blocks m c) ∗ owns (c : Thread nD τ) oM fullShare (stacked (blocks m)))

set_option maxRecDepth 65536 in
/-- The body's obligation on device `c`. -/
theorem body_obligation (c : Dev nD) : BodyObligation (dats (F := F) m 0 c) (defs₀ (F := F)) 𝒱₀ () Set.univ := fun t => by
  rw [fin_N0 t]
  rw [bigSep_win, bigSep_win]
  show bodyPre m c ⊢ wp frame (wpE (defs₀ (F := F)) 𝒱₀ (c : Thread nD τ) none) Set.univ (printedBody F) (fun _ => bodyPost m c)
  unfold bodyPre start G'
  iintro ⟨⟨⟨⟨%K, #HR, Hg⟩, #Hlev, HcB, HcR⟩, Hscr⟩, Ho, ⟨%d0, Hx⟩, ⟨%d1, Hout⟩⟩
  rw [before_x]
  unfold Dat.owesAt Pipeline.owesWithin
  icases Ho with ⟨%W, -, HW⟩
  rw [show (dats m 0 c).owed t0_0.castSucc = O₀ c from rfl]
  iapply (sound_body (blocks m) K c fun _ => bodyPost m c) $$ [Hg HcB HcR Hscr HW Hx Hout]
  · isplitr
    · isplitr <;> iassumption
    iapply (holds_first (blocks m) c ((dats m 0 c).before (1 : Fin 2) t0_0 d1) W)
    isplitl [Hg HcB HcR]
    · isplitl [Hg]; · iexact Hg
      isplitl [HcB] <;> iassumption
    isplitl [Hscr]; · iexact Hscr
    isplitl [HW]; · iexact HW
    isplitl [Hx] <;> iassumption
  · iintro H
    ihave H := (holds_last (blocks m) c) $$ H
    icases H with ⟨H1, ⟨%W', HW⟩, Hx, Hout⟩
    unfold bodyPost Dat.owesAt Pipeline.owesWithin
    rw [show (dats m 0 c).owed t0_0.succ = 0 from rfl]
    isplitl [H1]; · iexact H1
    isplitl [HW]
    · iexists W'
      isplitr; · ipureintro; exact fun _ _ => Or.inl trivial
      iexact HW
    isplitl [Hx] <;> iassumption

/-! ## The launch theorem's conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blocks m) c)
      ⊢ |={Set.univ}=> iprop(start (blocks m) c ∗ emp) := by
  iintro ⟨-, Hlev, Hcr, -, HG⟩
  ihave Hc := (creds (F := F) c) $$ Hcr
  imodintro
  unfold start
  isplitl
  · isplitl [HG]; · iexact HG
    isplitl [Hlev] <;> iassumption
  · iempintro

theorem enter (c : Dev nD) :
    iprop(start (blocks m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (blocks m) c ∗ scratch c) from rfl, ← scratch_eq]
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(quiet c ∗ scratch c) from rfl, ← scratch_eq]
  unfold quiet
  rw [sems_eq]
  iintro ⟨⟨H1, H2⟩, H3⟩
  isplitl [H1]; · iexact H1
  isplitl [H2] <;> iassumption

/-- The staging semaphores are no cells of the gather. -/
theorem who_stage (c : Dev nD) (w : Fin cfg0.W) (s : Fin (cfg0.win w).nbuf) : who ((c : Thread nD τ), SemLoc.dma ((cfg0.win w).sem s)) = none := by
  have h : ∀ (w : Fin 2) (s : Fin (cfg0.win w).nbuf), ∀ k, csem k ≠ SemLoc.dma ((cfg0.win w).sem s) := by decide +kernel
  unfold who Function.partialInv
  exact dif_neg fun ⟨k, hk⟩ => h w s k hk

theorem waits (c : Dev nD) : (levAts L lv : sProp 𝕄) ⊢ Pipeline.cellsWaits cfgs (dats m) () 0 c :=
  Pipeline.cellsWaits_intro cfgs (dats m) () 0 c fun w s t => by
    have hp : ∀ a ∈ first, ∀ l, promise a = some l → 0 < l := by
      intro a _ l h
      cases a <;> simp [promise] at h <;> omega
    rcases t with ⟨_ | _, ht⟩
    · exact may_wait c _ 0 (by unfold lv; rw [who_stage]; exact Nat.le_refl 0) first hp
    · show _ ⊢ MayWait (c : Thread nD τ) _ () 0
      rw [MayWait_zero]; iintro -; iempintro

/-! ## The run -/

/-- The window's array after the run. -/
def finalA (c : Dev nD) (w : Fin cfg0.W) : Buf (Elt F) ((cfg0.win w).arr.view.loc (c : Thread nD τ)) := (dats m 0 c).arrAt w cfg0.N

set_option maxRecDepth 8000 in
/-- Every run of the eight devices ends, with the windows' arrays at `finalA` and every counter at zero. -/
theorem run_arrays : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (blocks m)) (G' := G' (blocks m)) (u₀ := u₀)
    (hu₀ := by
      unfold u₀
      iintro Hu
      ihave H := (ownU_pair _ _) $$ Hu
      icases H with ⟨HP, HX⟩
      imod (fund_ring (blocks m)) $$ HX with HG
      imodintro
      isplitl [HP] <;> iassumption)
    (hglob := glob (blocks m))
    (hA := fun _ _ => rfl) (hpf := fun _ k => k.elim0)
    (X := start (blocks m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m c (0 : Fin 2) = m ((c : Thread nD τ).loc main_arg0) :=
  (dats (F := F) m 0 c).arrAt_in (0 : Fin 2) rfl _

theorem final_out (c : Dev nD) : finalA m c (1 : Fin 2) = stacked (blocks m) := by
  unfold finalA
  refine (dats m 0 c).arrAt_eq_of_after_last (1 : Fin 2) t0_0 (by decide +kernel) _ fun i => ?_
  rfl

end Cert.Gather

end
-- ==== Proof.Value.lean ====
/-
# What the run computes

Cut a whole array into the eight devices' blocks, and lay the blocks one under the other: the whole array is back
(`stacked_blocks`). So a device's result is the array that the blocks were cut from, which the reference, the identity, returns
(`reference_run`).
-/
module

public import proofs.«01_k».proof.Proof.Launch
public import proofs.«01_k».proof.Proof.Gen.ReferenceIdeal
public import Idealize.ShloMosaic.Lib.Layout
public import Idealize.ShloMosaic.Lib.Quiescent
public import Idealize.ShloMosaic.Lib.StableHlo.RunHlo

@[expose] public section

noncomputable section

namespace Cert.Gather

open Idealize.ShloMosaic Idealize.ShloMosaic.TcCoe
open Idealize.SL.Sem

variable {F : FTy → Type} [FloatOps F]

/-- The row blocks of an array, laid one under the other, are the array. -/
theorem stacked_blocks (v : Vec F Cert.KernelIdeal.S4096x512 .bf16) :
    stacked (F := F) (fun c => Layout.block ⟨2, ![512, 512]⟩ ⟨2, ![4096, 512]⟩ 0 8 c v) = v := by
  funext i
  refine congrArg v (funext fun a => Fin.ext ?_)
  match a with
  | ⟨0, _⟩ => exact Nat.div_add_mod' (i 0).val 512
  | ⟨1, _⟩ => rfl

section Kernel

open Cert.KernelIdeal

variable (m : (ℓ : Loc nD τ sig) → Buf (Elt F) ℓ) (ρ : Dev nD → PrngReg)

/-- Every run of the eight devices ends with `x` unchanged on each of them, the result on each of them at the devices' blocks one
    under the other, and every counter at zero. -/
theorem kernel_run : θ_run defs (onTc (τ := τ) (main (F := F))) ⟨m, fun _ => 0, ρ⟩ (fun r =>
    (∀ c : Dev nD, r.2.mem ((c : Thread nD τ).loc main_v1) = stacked (blocks m) ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (final_out m c), (h.1 c (0 : Fin 2)).trans (final_x m c)⟩, h.2⟩)
    (run_arrays m ρ)

end Kernel

section Reference

open Cert.ReferenceIdeal

/-- The reference has no operation: every run of it ends with its argument unchanged and every counter at zero. -/
theorem reference_run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_hlo defs main (ops := []) (fun _ => rfl) (by decide) (by decide) trivial (fun _ h => nomatch h) m ρ)

end Reference

end Cert.Gather

end
-- ==== Proof.lean ====
/-
# The certificate

The kernel gathers an array that is cut into row blocks over eight devices; the reference returns the array. The kernel's run is
proved once, for any float values (`Cert.Gather.kernel_run`), and is read here at each of the two: at the bits for the kernel as it
is, and at the ideal values for its idealization.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Value

@[expose] public section

noncomputable section

namespace Cert.Proof

open Idealize.ShloMosaic Idealize.ShloMosaic.TcCoe Idealize.SL.Sem
open Cert.Gather

/-- Every run of the kernel on the bits ends, with `x` unchanged and every counter at zero. -/
theorem frame_kernel : Cert.quiescent_Kernel := fun m ρ _ =>
  run_same (F := Bits) _ _ ((θ_run Cert.KernelIdeal.defs _ _).mono (fun _ h => ⟨fun c => (h.1 c).2, h.2⟩) (kernel_run (F := Bits) m ρ))

/-- Every run of the idealized kernel ends, with `x` unchanged and every counter at zero. -/
theorem frame_ideal : Cert.quiescent_KernelIdeal := fun m ρ _ =>
  (θ_run Cert.KernelIdeal.defs _ _).mono (fun _ h => ⟨fun c => (h.1 c).2, h.2⟩) (kernel_run m ρ)

/-- Every run of the idealized reference ends, with its argument unchanged and every counter at zero. -/
theorem frame_reference : Cert.quiescent_ReferenceIdeal := fun m ρ _ => reference_run m ρ

/-- From a whole array and its row blocks, the idealized kernel's result on every device is the idealized reference's: the whole
    array. -/
theorem algebraic : Cert.algebraic_KernelIdeal_ReferenceIdeal := fun m ρ m' ρ' _ hx => by
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h.1 c).1.trans ?_, (h.1 c).2⟩) (kernel_run m ρ)
    rw [show blocks m = _ from funext hx]
    exact stacked_blocks _
  · exact (θ_run Cert.ReferenceIdeal.defs _ _).mono (fun _ h => ⟨h.1 0, h.1 0⟩) (reference_run m' ρ')

theorem claim : Cert.Claim :=
  ⟨Cert.Kernel.Gen.facts, Cert.KernelIdeal.Gen.facts, Cert.ReferenceIdeal.Gen.facts,
    frame_kernel, frame_ideal, frame_reference, trivial, algebraic⟩

end Cert.Proof

end
